-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S100000x128 : Shape := ⟨2, ![100000, 128]⟩
abbrev S100000x3 : Shape := ⟨2, ![100000, 3]⟩
abbrev S100000 : Shape := ⟨1, ![100000]⟩
abbrev S64x32x3 : Shape := ⟨3, ![64, 32, 3]⟩
abbrev S64x32 : Shape := ⟨2, ![64, 32]⟩
abbrev S64x128 : Shape := ⟨2, ![64, 128]⟩
abbrev S64 : Shape := ⟨1, ![64]⟩
abbrev S128x64 : Shape := ⟨2, ![128, 64]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  bcast_S_S64x128 : S_.BroadcastsInDim S64x128 (![] : Fin 0 → Fin S64x128.rank)
  bcast_S_S64 : S_.BroadcastsInDim S64 (![] : Fin 0 → Fin S64.rank)
  bcast_S_S64x32 : S_.BroadcastsInDim S64x32 (![] : Fin 0 → Fin S64x32.rank)

variable [Facts]

def fn_part1 {F : FTy → Type} [FloatOps F] (main_arg4 : FVec F S64x32 .f32) (main_arg10 : FVec F S64 .f32) (main_v2 : IVec S100000x128 1) (main_v5 : IVec S64x128 1) (main_v8 : IVec S64 1) (main_v11 : IVec S64x32 1) (main_v14 : IVec S64 1) (main_v17 : IVec S64x32 1) : IVec S100000x128 1 × IVec S64x128 1 × IVec S64 1 × IVec S64x32 1 × IVec S64 1 × IVec S64x32 1 × IVec S64 1 × IVec S64x32 1 :=
  let main_v18 : FVec F S64 .f32 := Host.absf main_arg10
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  let main_cst_6 : FVec F S_ .f32 := constant S_ .f32 0x00000000#32
  let main_v21 : FVec F S64x32 .f32 := broadcastInDim S64x32 ![] bcast_S_S64x32 main_cst_6
  let main_v22 : IVec S64x32 1 := cmpf .une main_arg4 main_v21
  (main_v2, main_v5, main_v8, main_v11, main_v14, main_v17, main_v20, main_v22)

def fn {F : FTy → Type} [FloatOps F] (main_arg0 : FVec F S100000x128 .f32) (main_arg1 : FVec F S100000x3 .f32) (main_arg2 : IVec S100000 32) (main_arg3 : FVec F S64x32x3 .f32) (main_arg4 : FVec F S64x32 .f32) (main_arg5 : FVec F S64x128 .f32) (main_arg6 : FVec F S64 .f32) (main_arg7 : FVec F S64x32 .f32) (main_arg8 : FVec F S64 .f32) (main_arg9 : FVec F S64x32 .f32) (main_arg10 : FVec F S64 .f32) (main_arg11 : FVec F S128x64 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) : IVec S100000x128 1 × IVec S64x128 1 × IVec S64 1 × IVec S64x32 1 × IVec S64 1 × IVec S64x32 1 × IVec S64 1 × IVec S64x32 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_v3 : FVec F S64x128 .f32 := Host.absf main_arg5
  let main_cst_0 : FVec F S_ .f32 := constant S_ .f32 0x7F800000#32
  let main_v4 : FVec F S64x128 .f32 := broadcastInDim S64x128 ![] bcast_S_S64x128 main_cst_0
  let main_v5 : IVec S64x128 1 := cmpf .olt main_v3 main_v4
  let main_v6 : FVec F S64 .f32 := Host.absf main_arg6
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S64x32 .f32 := Host.absf main_arg7
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_v12 : FVec F S64 .f32 := Host.absf main_arg8
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64x32 .f32 := Host.absf main_arg9
  let main_cst_4 : FVec F S_ .f32 := constant S_ .f32 0x7F800000#32
  let main_v16 : FVec F S64x32 .f32 := broadcastInDim S64x32 ![] bcast_S_S64x32 main_cst_4
  let main_v17 : IVec S64x32 1 := cmpf .olt main_v15 main_v16
  fn_part1 (F := F) main_arg4 main_arg10 main_v2 main_v5 main_v8 main_v11 main_v14 main_v17
-- ==== Kernel.lean ====
abbrev S100000x128 : Shape := ⟨2, ![100000, 128]⟩
abbrev S100000x3 : Shape := ⟨2, ![100000, 3]⟩
abbrev S100000 : Shape := ⟨1, ![100000]⟩
abbrev S64x32x3 : Shape := ⟨3, ![64, 32, 3]⟩
abbrev S64x32 : Shape := ⟨2, ![64, 32]⟩
abbrev S64x128 : Shape := ⟨2, ![64, 128]⟩
abbrev S64 : Shape := ⟨1, ![64]⟩
abbrev S128x64 : Shape := ⟨2, ![128, 64]⟩
abbrev S128 : Shape := ⟨1, ![128]⟩
abbrev S128x128 : Shape := ⟨2, ![128, 128]⟩
abbrev S_ : Shape := ⟨0, ![]⟩
abbrev S100352x128 : Shape := ⟨2, ![100352, 128]⟩
abbrev S100352x3 : Shape := ⟨2, ![100352, 3]⟩
abbrev S100352 : Shape := ⟨1, ![100352]⟩
abbrev S100352x1 : Shape := ⟨2, ![100352, 1]⟩
abbrev S2048x3 : Shape := ⟨2, ![2048, 3]⟩
abbrev S2048x1 : Shape := ⟨2, ![2048, 1]⟩
abbrev S2048 : Shape := ⟨1, ![2048]⟩
abbrev S1x2048 : Shape := ⟨2, ![1, 2048]⟩
abbrev S128x64x32 : Shape := ⟨3, ![128, 64, 32]⟩
abbrev S128x2048 : Shape := ⟨2, ![128, 2048]⟩
abbrev S64x64 : Shape := ⟨2, ![64, 64]⟩
abbrev S64x32x1 : Shape := ⟨3, ![64, 32, 1]⟩
abbrev S64x1x64 : Shape := ⟨3, ![64, 1, 64]⟩
abbrev S64x32x64 : Shape := ⟨3, ![64, 32, 64]⟩
abbrev S2048x64 : Shape := ⟨2, ![2048, 64]⟩
abbrev S1x64 : Shape := ⟨2, ![1, 64]⟩
abbrev S512x64 : Shape := ⟨2, ![512, 64]⟩
abbrev S1024x128 : Shape := ⟨2, ![1024, 128]⟩
abbrev S1024x3 : Shape := ⟨2, ![1024, 3]⟩
abbrev S1024x1 : Shape := ⟨2, ![1024, 1]⟩
abbrev S1024x2048 : Shape := ⟨2, ![1024, 2048]⟩
abbrev S1024x64 : Shape := ⟨2, ![1024, 64]⟩
abbrev S1024x512 : Shape := ⟨2, ![1024, 512]⟩
abbrev S1x128 : Shape := ⟨2, ![1, 128]⟩
abbrev S512x128 : Shape := ⟨2, ![512, 128]⟩

abbrev nBuf : Space → Nat
  | .hbm => 85
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S100000x3, .f32⟩
  | .hbm, ⟨2, _⟩ => ⟨S100000, .i32⟩
  | .hbm, ⟨3, _⟩ => ⟨S64x32x3, .f32⟩
  | .hbm, ⟨4, _⟩ => ⟨S64x32, .f32⟩
  | .hbm, ⟨5, _⟩ => ⟨S64x128, .f32⟩
  | .hbm, ⟨6, _⟩ => ⟨S64, .f32⟩
  | .hbm, ⟨7, _⟩ => ⟨S64x32, .f32⟩
  | .hbm, ⟨8, _⟩ => ⟨S64, .f32⟩
  | .hbm, ⟨9, _⟩ => ⟨S64x32, .f32⟩
  | .hbm, ⟨10, _⟩ => ⟨S64, .f32⟩
  | .hbm, ⟨11, _⟩ => ⟨S128x64, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S_, .i32⟩
  | .hbm, ⟨20, _⟩ => ⟨S_, .f32⟩
  | .hbm, ⟨21, _⟩ => ⟨S100352x128, .f32⟩
  | .hbm, ⟨22, _⟩ => ⟨S_, .i32⟩
  | .hbm, ⟨23, _⟩ => ⟨S_, .f32⟩
  | .hbm, ⟨24, _⟩ => ⟨S100352x3, .f32⟩
  | .hbm, ⟨25, _⟩ => ⟨S_, .i32⟩
  | .hbm, ⟨26, _⟩ => ⟨S_, .i32⟩
  | .hbm, ⟨27, _⟩ => ⟨S100352, .i32⟩
  | .hbm, ⟨28, _⟩ => ⟨S100352x1, .i32⟩
  | .hbm, ⟨29, _⟩ => ⟨S2048x3, .f32⟩
  | .hbm, ⟨30, _⟩ => ⟨S2048x1, .f32⟩
  | .hbm, ⟨31, _⟩ => ⟨S2048, .f32⟩
  | .hbm, ⟨32, _⟩ => ⟨S1x2048, .f32⟩
  | .hbm, ⟨33, _⟩ => ⟨S2048x1, .f32⟩
  | .hbm, ⟨34, _⟩ => ⟨S2048, .f32⟩
  | .hbm, ⟨35, _⟩ => ⟨S1x2048, .f32⟩
  | .hbm, ⟨36, _⟩ => ⟨S2048x1, .f32⟩
  | .hbm, ⟨37, _⟩ => ⟨S2048, .f32⟩
  | .hbm, ⟨38, _⟩ => ⟨S1x2048, .f32⟩
  | .hbm, ⟨39, _⟩ => ⟨S2048, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S1x2048, .f32⟩
  | .hbm, ⟨48, _⟩ => ⟨S128x64, .f32⟩
  | .hbm, ⟨49, _⟩ => ⟨S128x64x32, .f32⟩
  | .hbm, ⟨50, _⟩ => ⟨S128x2048, .f32⟩
  | .hbm, ⟨51, _⟩ => ⟨S64x32, .f32⟩
  | .hbm, ⟨52, _⟩ => ⟨S2048, .f32⟩
  | .hbm, ⟨53, _⟩ => ⟨S1x2048, .f32⟩
  | .hbm, ⟨54, _⟩ => ⟨S64x64, .i32⟩
  | .hbm, ⟨55, _⟩ => ⟨S64x64, .i32⟩
  | .hbm, ⟨56, _⟩ => ⟨S_, .i32⟩
  | .hbm, ⟨57, _⟩ => ⟨S64x64, .i32⟩
  | .hbm, ⟨58, _⟩ => ⟨S64x64, .i32⟩
  | .hbm, ⟨59, _⟩ => ⟨S64x64, .i1⟩
  | .hbm, ⟨60, _⟩ => ⟨S64x64, .f32⟩
  | .hbm, ⟨61, _⟩ => ⟨S64x32x1, .f32⟩
  | .hbm, ⟨62, _⟩ => ⟨S64x1x64, .f32⟩
  | .hbm, ⟨63, _⟩ => ⟨S64x32x64, .f32⟩
  | .hbm, ⟨64, _⟩ => ⟨S64x32x64, .f32⟩
  | .hbm, ⟨65, _⟩ => ⟨S64x32x64, .f32⟩
  | .hbm, ⟨66, _⟩ => ⟨S2048x64, .f32⟩
  | .hbm, ⟨67, _⟩ => ⟨S64x32x1, .f32⟩
  | .hbm, ⟨68, _⟩ => ⟨S64x1x64, .f32⟩
  | .hbm, ⟨69, _⟩ => ⟨S64x32x64, .f32⟩
  | .hbm, ⟨70, _⟩ => ⟨S64x32x64, .f32⟩
  | .hbm, ⟨71, _⟩ => ⟨S64x32x64, .f32⟩
  | .hbm, ⟨72, _⟩ => ⟨S2048x64, .f32⟩
  | .hbm, ⟨73, _⟩ => ⟨S64, .f32⟩
  | .hbm, ⟨74, _⟩ => ⟨S1x64, .f32⟩
  | .hbm, ⟨75, _⟩ => ⟨S512x64, .f32⟩
  | .hbm, ⟨76, _⟩ => ⟨S64x128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S128x128, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S512x128, .f32⟩
  | .local _ .vmem, ⟨0, _⟩ => ⟨S1024x128, .f32⟩
  | .local _ .vmem, ⟨1, _⟩ => ⟨S1024x128, .f32⟩
  | .local _ .vmem, ⟨2, _⟩ => ⟨S1024x3, .f32⟩
  | .local _ .vmem, ⟨3, _⟩ => ⟨S1024x3, .f32⟩
  | .local _ .vmem, ⟨4, _⟩ => ⟨S1024x1, .i32⟩
  | .local _ .vmem, ⟨5, _⟩ => ⟨S1024x1, .i32⟩
  | .local _ .vmem, ⟨6, _⟩ => ⟨S128x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S2048x64, .f32⟩
  | .local _ .vmem, ⟨13, _⟩ => ⟨S2048x64, .f32⟩
  | .local _ .vmem, ⟨14, _⟩ => ⟨S1x64, .f32⟩
  | .local _ .vmem, ⟨15, _⟩ => ⟨S512x64, .f32⟩
  | .local _ .vmem, ⟨16, _⟩ => ⟨S512x64, .f32⟩
  | .local _ .vmem, ⟨17, _⟩ => ⟨S64x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S512x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_call0_v0 : Ref sig .tc := ⟨.hbm, 20, rfl⟩
abbrev main_v0 : Ref sig .tc := ⟨.hbm, 21, rfl⟩
abbrev main_c_0 : Ref sig .tc := ⟨.hbm, 22, rfl⟩
abbrev main_call1_v0 : Ref sig .tc := ⟨.hbm, 23, rfl⟩
abbrev main_v1 : Ref sig .tc := ⟨.hbm, 24, rfl⟩
abbrev main_c_1 : Ref sig .tc := ⟨.hbm, 25, rfl⟩
abbrev main_call2_v0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst : Ref sig .tc := ⟨.hbm, 41, rfl⟩
abbrev main_v16 : Ref sig .tc := ⟨.hbm, 42, rfl⟩
abbrev main_v17 : Ref sig .tc := ⟨.hbm, 43, rfl⟩
abbrev main_cst_2 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_3 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev grid1 : Pipeline.Grid := .none

abbrev stage1_0 : Fin 1 → Memref sig .tc .vmem S512x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S512x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
-- ==== ReferenceIdeal.lean ====
abbrev S100000x128 : Shape := ⟨2, ![100000, 128]⟩
abbrev S100000x3 : Shape := ⟨2, ![100000, 3]⟩
abbrev S100000 : Shape := ⟨1, ![100000]⟩
abbrev S64x32x3 : Shape := ⟨3, ![64, 32, 3]⟩
abbrev S64x32 : Shape := ⟨2, ![64, 32]⟩
abbrev S64x128 : Shape := ⟨2, ![64, 128]⟩
abbrev S64 : Shape := ⟨1, ![64]⟩
abbrev S128x64 : Shape := ⟨2, ![128, 64]⟩
abbrev S128 : Shape := ⟨1, ![128]⟩
abbrev S128x128 : Shape := ⟨2, ![128, 128]⟩
abbrev S100000x64 : Shape := ⟨2, ![100000, 64]⟩
abbrev S1x64 : Shape := ⟨2, ![1, 64]⟩
abbrev S100000x1x1x3 : Shape := ⟨4, ![100000, 1, 1, 3]⟩
abbrev S1x64x32x3 : Shape := ⟨4, ![1, 64, 32, 3]⟩
abbrev S100000x64x32x3 : Shape := ⟨4, ![100000, 64, 32, 3]⟩
abbrev S_ : Shape := ⟨0, ![]⟩
abbrev S100000x64x32 : Shape := ⟨3, ![100000, 64, 32]⟩
abbrev S1x64x32 : Shape := ⟨3, ![1, 64, 32]⟩
abbrev S100000x64x1 : Shape := ⟨3, ![100000, 64, 1]⟩
abbrev S512x64 : Shape := ⟨2, ![512, 64]⟩
abbrev S100000x1 : Shape := ⟨2, ![100000, 1]⟩
abbrev S512x128 : Shape := ⟨2, ![512, 128]⟩
abbrev S1x128 : Shape := ⟨2, ![1, 128]⟩

abbrev nBuf : Space → Nat
  | .hbm => 179
  | .vmem => 0
  | .smem => 0
  | _ => 0

abbrev hbmTy0_0 (i : Nat) : BufTy := match i % 128 with
  | 0 => ⟨S100000x128, .f32⟩
  | 1 => ⟨S100000x3, .f32⟩
  | 2 => ⟨S100000, .i32⟩
  | 3 => ⟨S64x32x3, .f32⟩
  | 4 => ⟨S64x32, .f32⟩
  | 5 => ⟨S64x128, .f32⟩
  | 6 => ⟨S64, .f32⟩
  | 7 => ⟨S64x32, .f32⟩
  | 8 => ⟨S64, .f32⟩
  | 9 => ⟨S64x32, .f32⟩
  | 10 => ⟨S64, .f32⟩
  | 11 => ⟨S128x64, .f32⟩
  | 12 => ⟨S128, .f32⟩
  | 13 => ⟨S128, .f32⟩
  | 14 => ⟨S128, .f32⟩
  | 15 => ⟨S128x128, .f32⟩
  | 16 => ⟨S128, .f32⟩
  | 17 => ⟨S128, .f32⟩
  | 18 => ⟨S128, .f32⟩
  | 19 => ⟨S128x64, .f32⟩
  | 20 => ⟨S100000x64, .f32⟩
  | 21 => ⟨S1x64, .f32⟩
  | 22 => ⟨S100000x64, .f32⟩
  | 23 => ⟨S100000x64, .f32⟩
  | 24 => ⟨S100000x1x1x3, .f32⟩
  | 25 => ⟨S1x64x32x3, .f32⟩
  | 26 => ⟨S100000x64x32x3, .f32⟩
  | 27 => ⟨S100000x64x32x3, .f32⟩
  | 28 => ⟨S100000x64x32x3, .f32⟩
  | 29 => ⟨S100000x64x32x3, .f32⟩
  | 30 => ⟨S_, .f32⟩
  | 31 => ⟨S100000x64x32, .f32⟩
  | 32 => ⟨S100000x64x32, .f32⟩
  | 33 => ⟨S100000x64x32, .f32⟩
  | 34 => ⟨S64x32, .f32⟩
  | 35 => ⟨S_, .f32⟩
  | 36 => ⟨S64x32, .f32⟩
  | 37 => ⟨S64x32, .f32⟩
  | 38 => ⟨S1x64x32, .f32⟩
  | 39 => ⟨S100000x64x32, .f32⟩
  | 40 => ⟨S100000x64x32, .f32⟩
  | 41 => ⟨S100000x64x32, .f32⟩
  | 42 => ⟨S100000x64x1, .f32⟩
  | 43 => ⟨S100000x64x32, .f32⟩
  | 44 => ⟨S100000x64x32, .f32⟩
  | 45 => ⟨S100000x64x32, .f32⟩
  | 46 => ⟨S1x64x32, .f32⟩
  | 47 => ⟨S100000x64x32, .f32⟩
  | 48 => ⟨S100000x64x32, .f32⟩
  | 49 => ⟨S_, .f32⟩
  | 50 => ⟨S100000x64, .f32⟩
  | 51 => ⟨S1x64, .f32⟩
  | 52 => ⟨S100000x64, .f32⟩
  | 53 => ⟨S100000x64, .f32⟩
  | 54 => ⟨S1x64x32, .f32⟩
  | 55 => ⟨S100000x64x32, .f32⟩
  | 56 => ⟨S100000x64x32, .f32⟩
  | 57 => ⟨S_, .f32⟩
  | 58 => ⟨S100000x64, .f32⟩
  | 59 => ⟨S1x64, .f32⟩
  | 60 => ⟨S100000x64, .f32⟩
  | 61 => ⟨S100000x64, .f32⟩
  | 62 => ⟨S100000x64, .f32⟩
  | 63 => ⟨S_, .f32⟩
  | 64 => ⟨S100000x64, .f32⟩
  | 65 => ⟨S100000x64, .i1⟩
  | 66 => ⟨S_, .f32⟩
  | 67 => ⟨S100000x64, .f32⟩
  | 68 => ⟨S100000x64, .f32⟩
  | 69 => ⟨S100000x64, .f32⟩
  | 70 => ⟨S_, .f32⟩
  | 71 => ⟨S512x64, .f32⟩
  | 72 => ⟨S100000x1, .i32⟩
  | 73 => ⟨S512x64, .f32⟩
  | 74 => ⟨S64x128, .f32⟩
  | 75 => ⟨S512x128, .f32⟩
  | 76 => ⟨S1x128, .f32⟩
  | 77 => ⟨S512x128, .f32⟩
  | 78 => ⟨S512x128, .f32⟩
  | 79 => ⟨S_, .f32⟩
  | 80 => ⟨S128, .f32⟩
  | 81 => ⟨S_, .f32⟩
  | 82 => ⟨S128, .f32⟩
  | 83 => ⟨S128, .f32⟩
  | 84 => ⟨S_, .i32⟩
  | 85 => ⟨S_, .f32⟩
  | 86 => ⟨S128, .f32⟩
  | 87 => ⟨S1x128, .f32⟩
  | 88 => ⟨S_, .f32⟩
  | 89 => ⟨S1x128, .f32⟩
  | 90 => ⟨S1x128, .f32⟩
  | 91 => ⟨S512x128, .f32⟩
  | 92 => ⟨S512x128, .f32⟩
  | 93 => ⟨S512x128, .f32⟩
  | 94 => ⟨S_, .f32⟩
  | 95 => ⟨S_, .f32⟩
  | 96 => ⟨S_, .f32⟩
  | 97 => ⟨S_, .f32⟩
  | 98 => ⟨S128, .f32⟩
  | 99 => ⟨S128, .f32⟩
  | 100 => ⟨S128, .f32⟩
  | 101 => ⟨S_, .f32⟩
  | 102 => ⟨S_, .i1⟩
  | 103 => ⟨S_, .f32⟩
  | 104 => ⟨S_, .f32⟩
  | 105 => ⟨S128, .f32⟩
  | 106 => ⟨S128, .f32⟩
  | 107 => ⟨S1x128, .f32⟩
  | 108 => ⟨S512x128, .f32⟩
  | 109 => ⟨S512x128, .f32⟩
  | 110 => ⟨S_, .f32⟩
  | 111 => ⟨S128, .f32⟩
  | 112 => ⟨S128, .f32⟩
  | 113 => ⟨S128, .f32⟩
  | 114 => ⟨S1x128, .f32⟩
  | 115 => ⟨S512x128, .f32⟩
  | 116 => ⟨S512x128, .f32⟩
  | 117 => ⟨S1x128, .f32⟩
  | 118 => ⟨S512x128, .f32⟩
  | 119 => ⟨S512x128, .f32⟩
  | 120 => ⟨S1x128, .f32⟩
  | 121 => ⟨S512x128, .f32⟩
  | 122 => ⟨S512x128, .f32⟩
  | 123 => ⟨S_, .f32⟩
  | 124 => ⟨S512x128, .f32⟩
  | 125 => ⟨S512x128, .i1⟩
  | 126 => ⟨S_, .f32⟩
  | 127 => ⟨S512x128, .f32⟩
  | _ => ⟨S100000x128, .f32⟩

abbrev hbmTy0_1 (i : Nat) : BufTy := match i % 128 with
  | 0 => ⟨S512x128, .f32⟩
  | 1 => ⟨S512x128, .f32⟩
  | 2 => ⟨S128x128, .f32⟩
  | 3 => ⟨S512x128, .f32⟩
  | 4 => ⟨S1x128, .f32⟩
  | 5 => ⟨S512x128, .f32⟩
  | 6 => ⟨S512x128, .f32⟩
  | 7 => ⟨S_, .f32⟩
  | 8 => ⟨S128, .f32⟩
  | 9 => ⟨S_, .f32⟩
  | 10 => ⟨S128, .f32⟩
  | 11 => ⟨S128, .f32⟩
  | 12 => ⟨S_, .i32⟩
  | 13 => ⟨S_, .f32⟩
  | 14 => ⟨S128, .f32⟩
  | 15 => ⟨S1x128, .f32⟩
  | 16 => ⟨S_, .f32⟩
  | 17 => ⟨S1x128, .f32⟩
  | 18 => ⟨S1x128, .f32⟩
  | 19 => ⟨S512x128, .f32⟩
  | 20 => ⟨S512x128, .f32⟩
  | 21 => ⟨S512x128, .f32⟩
  | 22 => ⟨S_, .f32⟩
  | 23 => ⟨S_, .f32⟩
  | 24 => ⟨S_, .f32⟩
  | 25 => ⟨S_, .f32⟩
  | 26 => ⟨S128, .f32⟩
  | 27 => ⟨S128, .f32⟩
  | 28 => ⟨S128, .f32⟩
  | 29 => ⟨S_, .f32⟩
  | 30 => ⟨S_, .i1⟩
  | 31 => ⟨S_, .f32⟩
  | 32 => ⟨S_, .f32⟩
  | 33 => ⟨S128, .f32⟩
  | 34 => ⟨S128, .f32⟩
  | 35 => ⟨S1x128, .f32⟩
  | 36 => ⟨S512x128, .f32⟩
  | 37 => ⟨S512x128, .f32⟩
  | 38 => ⟨S_, .f32⟩
  | 39 => ⟨S128, .f32⟩
  | 40 => ⟨S128, .f32⟩
  | 41 => ⟨S128, .f32⟩
  | 42 => ⟨S1x128, .f32⟩
  | 43 => ⟨S512x128, .f32⟩
  | 44 => ⟨S512x128, .f32⟩
  | 45 => ⟨S1x128, .f32⟩
  | 46 => ⟨S512x128, .f32⟩
  | 47 => ⟨S512x128, .f32⟩
  | 48 => ⟨S1x128, .f32⟩
  | 49 => ⟨S512x128, .f32⟩
  | 50 => ⟨S512x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_1 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_2 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_5 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_6 : Ref sig .tc := ⟨.hbm, 79, rfl⟩
abbrev main_v53 : Ref sig .tc := ⟨.hbm, 80, rfl⟩
abbrev main_cst_7 : Ref sig .tc := ⟨.hbm, 81, rfl⟩
abbrev main_v54 : Ref sig .tc := ⟨.hbm, 82, rfl⟩
abbrev main_v55 : Ref sig .tc := ⟨.hbm, 83, rfl⟩
abbrev main_c : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_cst_0 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_cst_1 : Ref sig .tc := ⟨.hbm, 95, rfl⟩
abbrev main_call1_v8 : Ref sig .tc := ⟨.hbm, 96, rfl⟩
abbrev main_call1_cst_2 : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_call1_cst_3 : Ref sig .tc := ⟨.hbm, 101, rfl⟩
abbrev main_call1_v12 : Ref sig .tc := ⟨.hbm, 102, rfl⟩
abbrev main_call1_cst_4 : Ref sig .tc := ⟨.hbm, 103, rfl⟩
abbrev main_call1_call0_v0 : Ref sig .tc := ⟨.hbm, 104, rfl⟩
abbrev main_call1_call0_v1 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_cst_8 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_cst_9 : Ref sig .tc := ⟨.hbm, 123, rfl⟩
abbrev main_v72 : Ref sig .tc := ⟨.hbm, 124, rfl⟩
abbrev main_v73 : Ref sig .tc := ⟨.hbm, 125, rfl⟩
abbrev main_cst_10 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_cst_11 : Ref sig .tc := ⟨.hbm, 135, rfl⟩
abbrev main_v82 : Ref sig .tc := ⟨.hbm, 136, rfl⟩
abbrev main_cst_12 : Ref sig .tc := ⟨.hbm, 137, rfl⟩
abbrev main_v83 : Ref sig .tc := ⟨.hbm, 138, rfl⟩
abbrev main_v84 : Ref sig .tc := ⟨.hbm, 139, rfl⟩
abbrev main_c_13 : Ref sig .tc := ⟨.hbm, 140, rfl⟩
abbrev main_call3_cst : Ref sig .tc := ⟨.hbm, 141, rfl⟩
abbrev main_call3_v0 : Ref sig .tc := ⟨.hbm, 142, rfl⟩
abbrev main_call3_v1 : Ref sig .tc := ⟨.hbm, 143, rfl⟩
abbrev main_call3_cst_0 : Ref sig .tc := ⟨.hbm, 144, rfl⟩
abbrev main_call3_v2 : Ref sig .tc := ⟨.hbm, 145, rfl⟩
abbrev main_call3_v3 : Ref sig .tc := ⟨.hbm, 146, rfl⟩
abbrev main_call3_v4 : Ref sig .tc := ⟨.hbm, 147, rfl⟩
abbrev main_call3_v5 : Ref sig .tc := ⟨.hbm, 148, rfl⟩
abbrev main_call3_v6 : Ref sig .tc := ⟨.hbm, 149, rfl⟩
abbrev main_call3_v7 : Ref sig .tc := ⟨.hbm, 150, rfl⟩
abbrev main_call3_cst_1 : Ref sig .tc := ⟨.hbm, 151, rfl⟩
abbrev main_call3_v8 : Ref sig .tc := ⟨.hbm, 152, rfl⟩
abbrev main_call3_cst_2 : Ref sig .tc := ⟨.hbm, 153, rfl⟩
abbrev main_call3_v9 : Ref sig .tc := ⟨.hbm, 154, rfl⟩
abbrev main_call3_v10 : Ref sig .tc := ⟨.hbm, 155, rfl⟩
abbrev main_call3_v11 : Ref sig .tc := ⟨.hbm, 156, rfl⟩
abbrev main_call3_cst_3 : Ref sig .tc := ⟨.hbm, 157, rfl⟩
abbrev main_call3_v12 : Ref sig .tc := ⟨.hbm, 158, rfl⟩
abbrev main_call3_cst_4 : Ref sig .tc := ⟨.hbm, 159, rfl⟩
abbrev main_call3_call0_v0 : Ref sig .tc := ⟨.hbm, 160, rfl⟩
abbrev main_call3_call0_v1 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_cst_14 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩

abbrev nD : Nat := 1
abbrev τ : Topo := Topo.v7x

variable {F : FTy → Type} [FloatOps F]
-- ==== Proof.KRun.lean ====
/-
  The run of the idealized kernel with its RESULT: the generated frame run's launch, its last thread state read also at the
  result buffer, which ends at the second region's output array (`main_v56`, window 9 of region 1).
-/
module

public import proofs.«01_k».proof.Proof.Gen.KernelIdeal.Frame

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- What the result buffer ends holding: the second region's output array after its last point. -/
abbrev result (c : Dev nD) : Vec F S512x128 .f32 := (dat1 (V9 m ρ) c).arrAt 9 cfg1.N

set_option backward.isDefEq.respectTransparency.types false in
/-- Every execution of the kernel ends with its result buffer at `result` and its arguments unchanged. -/
theorem run : θ_run defs (onTc (τ := τ) (main (F := F))) ⟨m, fun _ => 0, ρ⟩ (fun r => ∀ c : Dev nD,
      r.2.mem ((c.tc : Thread nD τ).loc main_v56) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ => fun c =>
      ⟨(h c _ (mem_uc main_v56 (by decide))).trans (W10_arr m ρ c 9),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c)⟩)

end Cert.KernelIdeal.Value

end
-- ==== Proof.EMath.lean ====
/-
  The real arithmetic of the certificate, over the extended reals: one node's feature by the reference's formula and by
  the kernel's (columns side by side, block-diagonal weights, one inverse width), and why they are the same number.
-/
module

public import Idealize.ShloMosaic.Lib.ValueIdx
public import Idealize.ShloMosaic.Lib.IdealHost

@[expose] public section

noncomputable section

namespace Cert.Feat

open Idealize.ShloMosaic

/-! ## Finite extended reals -/

/-- The number is a real one. -/
def Real? (x : EReal) : Prop := ∃ r : ℝ, x = (r : EReal)

theorem Real?.add {x y : EReal} (hx : Real? x) (hy : Real? y) : Real? (x + y) := by
  obtain ⟨a, rfl⟩ := hx; obtain ⟨b, rfl⟩ := hy; exact ⟨a + b, (EReal.coe_add a b).symm⟩

theorem Real?.mul {x y : EReal} (hx : Real? x) (hy : Real? y) : Real? (x * y) := by
  obtain ⟨a, rfl⟩ := hx; obtain ⟨b, rfl⟩ := hy; exact ⟨a * b, (EReal.coe_mul a b).symm⟩

theorem Real?.sum {ι : Type} (s : Finset ι) {f : ι → EReal} (h : ∀ i, Real? (f i)) : Real? (∑ i ∈ s, f i) := by
  classical
  induction s using Finset.induction_on with
  | empty => exact ⟨0, by simp⟩
  | insert a s ha ih => rw [Finset.sum_insert ha]; exact (h a).add ih

theorem Real?.sub_self {x : EReal} (hx : Real? x) : x - x = 0 := by
  obtain ⟨a, rfl⟩ := hx; rw [← EReal.coe_sub, _root_.sub_self]; rfl

/-- A number whose absolute value is below the top is a real one. -/
theorem real_of_abs_lt {x : EReal} (h : max x (-x) < ⊤) : Real? x := by
  induction x with
  | bot => simp at h
  | top => simp at h
  | coe r => exact ⟨r, rfl⟩

/-! ## The literals -/

theorem ofBits_two : Ideal.ofBits .f32 0x40000000#32 = 2 := by
  simp [Ideal.ofBits, Ideal.ieee]
  rw [← EReal.coe_mul]
  norm_num
  rfl

theorem ofBits_slope : Real? (Ideal.ofBits .f32 0x3E4CCCCD#32) := by
  simp [Ideal.ofBits, Ideal.ieee]
  exact ⟨_, rfl⟩

theorem ofBits_inf : Ideal.ofBits .f32 0x7F800000#32 = ⊤ := by
  simp [Ideal.ofBits, Ideal.ieee]

theorem ofBits_512 : Ideal.ofBits .f32 0x44000000#32 = ((512 : ℝ) : EReal) := by
  simp [Ideal.ofBits, Ideal.ieee]
  rw [← EReal.coe_mul]
  norm_num

/-! ## The radial value -/

/-- The squared distance of a point to a centre. -/
def sq3 (p c : Fin 3 → EReal) : EReal :=
  ((p 0 - c 0) * (p 0 - c 0) + (p 1 - c 1) * (p 1 - c 1)) + (p 2 - c 2) * (p 2 - c 2)

/-- The radial value of a squared distance at a width, as the reference divides. -/
def rbf (s w : EReal) : EReal := Ideal.exp (Ideal.div (-(Ideal.sqrt s)) (2 * (w * w)))

theorem mul_self_nonneg' (x : EReal) : 0 ≤ x * x := by
  induction x with
  | bot => simp
  | top => simp
  | coe r => rw [← EReal.coe_mul]; exact_mod_cast mul_self_nonneg r

theorem sq3_nonneg (p c : Fin 3 → EReal) : 0 ≤ sq3 p c :=
  add_nonneg (add_nonneg (mul_self_nonneg' _) (mul_self_nonneg' _)) (mul_self_nonneg' _)

theorem two_sq_pos {w : EReal} (hw : w ≠ 0) : 0 < 2 * (w * w) := by
  have h2 : (2 : EReal) = ((2 : ℝ) : EReal) := rfl
  induction w with
  | bot => rw [EReal.bot_mul_bot, h2, EReal.coe_mul_top_of_pos (by norm_num)]; exact EReal.zero_lt_top
  | top => rw [EReal.top_mul_top, h2, EReal.coe_mul_top_of_pos (by norm_num)]; exact EReal.zero_lt_top
  | coe r =>
    have hr : r ≠ 0 := by exact_mod_cast hw
    have : (0 : ℝ) < 2 * (r * r) := mul_pos (by norm_num) (mul_self_pos.mpr hr)
    rw [h2, ← EReal.coe_mul, ← EReal.coe_mul]
    exact_mod_cast this

/-- The kernel multiplies the negated distance by the width's inverse: the same radial value. -/
theorem rbf_kernel {s w : EReal} (hw : w ≠ 0) :
    Ideal.exp ((0 - Ideal.sqrt s) * Ideal.div 1 (2 * (w * w))) = rbf s w := by
  have h := (two_sq_pos hw).ne'
  unfold rbf
  rw [Ideal.div, if_neg h, Ideal.div, if_neg h, one_mul, zero_sub]

theorem sqrt_nonneg' {s : EReal} (hs : 0 ≤ s) : 0 ≤ Ideal.sqrt s := by
  induction s with
  | bot => simp at hs
  | top => exact le_top
  | coe r =>
    have hr : 0 ≤ r := by exact_mod_cast hs
    show 0 ≤ (if r < 0 then (⊥ : EReal) else (Real.sqrt r : EReal))
    rw [if_neg (not_lt.mpr hr)]
    exact_mod_cast Real.sqrt_nonneg r

theorem exp_real {z : EReal} (hz : z ≤ 0) : Real? (Ideal.exp z) := by
  induction z with
  | bot => exact ⟨0, rfl⟩
  | top => simp at hz
  | coe r => exact ⟨Real.exp r, rfl⟩

/-- A radial value is a real number: the exponent is never positive. -/
theorem rbf_real {s w : EReal} (hs : 0 ≤ s) (hw : w ≠ 0) : Real? (rbf s w) := by
  have h := two_sq_pos hw
  unfold rbf
  rw [Ideal.div, if_neg h.ne']
  refine exp_real ?_
  rw [EReal.neg_mul]
  have : 0 ≤ Ideal.sqrt s * (2 * (w * w))⁻¹ := mul_nonneg (sqrt_nonneg' hs) (EReal.inv_nonneg_of_nonneg h.le)
  exact EReal.neg_le_zero.mpr this

/-! ## The columns side by side -/

/-- Column of filter `f`'s radial function `k`. -/
def col (f : Fin 64) (k : Fin 32) : Fin 2048 := ⟨32 * f.val + k.val, by omega⟩

theorem sum_col (F : Fin 2048 → EReal) : ∑ j, F j = ∑ f : Fin 64, ∑ k : Fin 32, F (col f k) := by
  rw [← Fintype.sum_prod_type']
  refine (Fintype.sum_equiv (finProdFinEquiv (m := 64) (n := 32)) _ F fun p => ?_).symm
  congr 1
  apply Fin.ext
  simp [col, finProdFinEquiv, Nat.add_comm]

/-- The unit matrix's entry. -/
def eye (f g : Fin 64) : EReal := if f = g then 1 else 0

/-- A block-diagonal product reads one filter's block. -/
theorem sum_block (t : Fin 2048 → EReal) (u : Fin 64 → Fin 32 → EReal) (M : Fin 2048 → EReal) (g : Fin 64)
    (hM : ∀ f k, M (col f k) = u f k * eye f g) :
    ∑ j, t j * M j = ∑ k : Fin 32, t (col g k) * u g k := by
  rw [sum_col, Finset.sum_eq_single g]
  · refine Finset.sum_congr rfl fun k _ => ?_
    rw [hM, eye, if_pos rfl, mul_one]
  · intro f _ hf
    refine Finset.sum_eq_zero fun k _ => ?_
    rw [hM, eye, if_neg hf, mul_zero, mul_zero]
  · intro h; exact absurd (Finset.mem_univ g) h

/-! ## One node's feature -/

/-- Negative values are scaled by the slope. -/
def leaky (z : EReal) : EReal := if 0 ≤ z then z else Ideal.ofBits .f32 0x3E4CCCCD#32 * z

theorem leaky_real {z : EReal} (hz : Real? z) : Real? (leaky z) := by
  unfold leaky
  split
  · exact hz
  · exact ofBits_slope.mul hz

/-- Filter `f`'s value at a node before the slope, by the reference's formula: `x`, `p` the node's features and position,
    the rest the filter's parameters. -/
def feat (x : Fin 128 → EReal) (p : Fin 3 → EReal) (ctr : Fin 32 → Fin 3 → EReal) (wd : Fin 32 → EReal)
    (wx : Fin 128 → EReal) (bx : EReal) (wx2 : Fin 32 → EReal) (bx2 : EReal) (wp : Fin 32 → EReal) (bp : EReal) : EReal :=
  (∑ k : Fin 32, (rbf (sq3 p (ctr k)) (wd k) * (∑ a, x a * wx a + bx) + rbf (sq3 p (ctr k)) (wd k)) * wx2 k + bx2)
    + (∑ k : Fin 32, rbf (sq3 p (ctr k)) (wd k) * wp k + bp)

theorem feat_real {x : Fin 128 → EReal} {p : Fin 3 → EReal} {ctr : Fin 32 → Fin 3 → EReal} {wd : Fin 32 → EReal}
    {wx : Fin 128 → EReal} {bx : EReal} {wx2 : Fin 32 → EReal} {bx2 : EReal} {wp : Fin 32 → EReal} {bp : EReal}
    (hx : ∀ a, Real? (x a)) (hwd : ∀ k, wd k ≠ 0) (hwx : ∀ a, Real? (wx a)) (hbx : Real? bx)
    (hwx2 : ∀ k, Real? (wx2 k)) (hbx2 : Real? bx2) (hwp : ∀ k, Real? (wp k)) (hbp : Real? bp) :
    Real? (feat x p ctr wd wx bx wx2 bx2 wp bp) := by
  have hr : ∀ k, Real? (rbf (sq3 p (ctr k)) (wd k)) := fun k => rbf_real (sq3_nonneg _ _) (hwd k)
  have h1 : Real? (∑ a, x a * wx a + bx) := (Real?.sum _ fun a => (hx a).mul (hwx a)).add hbx
  exact ((Real?.sum _ fun k => (((hr k).mul h1).add (hr k)).mul (hwx2 k)).add hbx2).add
    ((Real?.sum _ fun k => (hr k).mul (hwp k)).add hbp)

/-- The same value as the kernel's row arithmetic computes it from the columns side by side. -/
theorem feat_kernel (x : Fin 128 → EReal) (p : Fin 3 → EReal) (C : Fin 64 → Fin 32 → Fin 3 → EReal)
    (W : Fin 64 → Fin 32 → EReal) (WX : Fin 64 → Fin 128 → EReal) (BX : Fin 64 → EReal) (WX2 : Fin 64 → Fin 32 → EReal)
    (BX2 : Fin 64 → EReal) (WP : Fin 64 → Fin 32 → EReal) (BP : Fin 64 → EReal)
    (cc : Fin 3 → Fin 2048 → EReal) (iv : Fin 2048 → EReal) (wx : Fin 128 → Fin 2048 → EReal) (bx : Fin 2048 → EReal)
    (M2 MP : Fin 2048 → Fin 64 → EReal) (bb : Fin 64 → EReal)
    (hcc : ∀ f k a, cc a (col f k) = C f k a) (hiv : ∀ f k, iv (col f k) = Ideal.div 1 (2 * (W f k * W f k)))
    (hwx : ∀ f k a, wx a (col f k) = WX f a) (hbx : ∀ f k, bx (col f k) = BX f)
    (hM2 : ∀ f k g, M2 (col f k) g = WX2 f k * eye f g) (hMP : ∀ f k g, MP (col f k) g = WP f k * eye f g)
    (hbb : ∀ g, bb g = BX2 g + BP g) (hW : ∀ f k, W f k ≠ 0) (e : Fin 2048 → EReal)
    (he : ∀ j, e j = Ideal.exp ((0 - Ideal.sqrt (sq3 p fun a => cc a j)) * iv j)) (g : Fin 64) :
    (∑ j, (e j * (∑ a, x a * wx a j + bx j) + e j) * M2 j g + ∑ j, e j * MP j g) + bb g
      = feat x p (C g) (W g) (WX g) (BX g) (WX2 g) (BX2 g) (WP g) (BP g) := by
  have hE : ∀ k, e (col g k) = rbf (sq3 p (C g k)) (W g k) := by
    intro k
    rw [he, hiv, rbf_kernel (hW g k)]
    congr 2
    funext a; exact hcc g k a
  rw [sum_block (fun j => e j * (∑ a, x a * wx a j + bx j) + e j) WX2 (fun j => M2 j g) g (fun f k => hM2 f k g),
    sum_block e WP (fun j => MP j g) g (fun f k => hMP f k g), hbb]
  unfold feat
  simp only [hE, hwx, hbx]
  exact add_add_add_comm _ _ _ _

end Cert.Feat

end
-- ==== Proof.Pay.lean ====
/-
  The first kernel body's vector expressions read at an index: one row's filter value, the indicator of a row's graph, and
  what one grid point adds to the pooled sums.
-/
module

public import proofs.«01_k».proof.Proof.Gen.KernelIdeal.Skeleton
public import proofs.«01_k».proof.Proof.EMath
public import Idealize.ShloMosaic.Lib.Pointwise

@[expose] public section

set_option maxRecDepth 16384

noncomputable section

namespace Cert.KernelIdeal.Value

open Idealize.ShloMosaic Idealize.ShloMosaic.Tactic
open Cert.KernelIdeal Cert.KernelIdeal.Gen

/-- A block's radial value at row `r`, column `j`. -/
def erow (P0 P1 P2 : Vec Ideal S1024x1 .f32) (CX CY CZ IV : Vec Ideal S1x2048 .f32) (r : Fin 1024) (j : Fin 2048) : EReal :=
  Ideal.exp ((0 - Ideal.sqrt (Feat.sq3 ![P0 (ix2 r 0), P1 (ix2 r 0), P2 (ix2 r 0)] ![CX (ix2 0 j), CY (ix2 0 j), CZ (ix2 0 j)])) * IV (ix2 0 j))

/-- A block's filter value at row `r`, filter `g`, before the slope. -/
def grow (X : Vec Ideal S1024x128 .f32) (WX : Vec Ideal S128x2048 .f32) (BX : Vec Ideal S1x2048 .f32) (e : Fin 2048 → EReal)
    (M2 MP : Vec Ideal S2048x64 .f32) (BB : Vec Ideal S1x64 .f32) (r : Fin 1024) (g : Fin 64) : EReal :=
  (∑ j, (e j * (∑ a, X (ix2 r a) * WX (ix2 a j) + BX (ix2 0 j)) + e j) * M2 (ix2 j g) + ∑ j, e j * MP (ix2 j g)) + BB (ix2 0 g)

theorem pay6_apply (X : Vec Ideal S1024x128 .f32) (WX : Vec Ideal S128x2048 .f32) (BX : Vec Ideal S1x2048 .f32)
    (P0 P1 P2 : Vec Ideal S1024x1 .f32) (CX CY CZ IV : Vec Ideal S1x2048 .f32)
    (M2 MP : Vec Ideal S2048x64 .f32) (BB : Vec Ideal S1x64 .f32) (r : Fin 1024) (g : Fin 64) :
    k0_pay6 (F := Ideal) (k0_pay3 X WX BX) (k0_pay4 P0 P1 P2 CX CY CZ) (k0_pay5 (F := Ideal)) IV M2 MP BB (ix2 r g)
      = Feat.leaky (grow X WX BX (erow P0 P1 P2 CX CY CZ IV r) M2 MP BB r g) := by
  unfold k0_pay6 k0_pay3 k0_pay4 k0_pay5
  pointwise []
  rfl

/-- The indicator of a row's graph number. -/
def hot (b : BitVec 32) (n : Fin 512) : EReal := if b = BitVec.ofNat 32 n.val then 1 else 0

theorem pay7_apply (b : Vec Ideal S1024x1 .i32) (r : Fin 1024) (n : Fin 512) :
    k0_pay7 (F := Ideal) b (ix2 r n) = hot (b (ix2 r 0)) n := by
  unfold k0_pay7 hot
  pointwise []
  by_cases h : b (ix2 r 0) = BitVec.ofNat 32 n.val
  · rw [if_pos h, h]
    show ((((BitVec.ofBool (BitVec.ofNat 32 n.val == BitVec.ofNat 32 n.val)).setWidth 32).toInt : ℝ) : EReal) = 1
    simp
  · rw [if_neg h]
    show ((((BitVec.ofBool (b (ix2 r 0) == BitVec.ofNat 32 n.val)).setWidth 32).toInt : ℝ) : EReal) = 0
    rw [show (b (ix2 r 0) == BitVec.ofNat 32 n.val) = false from beq_eq_false_iff_ne.mpr h]
    simp

/-- Three products whose right factors are a number, its difference with itself, and that difference's with itself add up to
    the first, when the number is finite or the left factor is zero. -/
theorem split_mul {h G : EReal} (hG : Feat.Real? G ∨ h = 0) : h * (G - G) = 0 ∧ h * ((G - G) - (G - G)) = 0 := by
  rcases hG with hG | rfl
  · have : (0 : EReal) - 0 = 0 := by simp
    rw [hG.sub_self, this, mul_zero]; exact ⟨rfl, rfl⟩
  · rw [zero_mul, zero_mul]; exact ⟨rfl, rfl⟩

/-- What the body leaves in the pooled block, from its input blocks (the three columns of positions apart) and what the block
    held before. -/
def leaves (X : Vec Ideal S1024x128 .f32) (P0 P1 P2 : Vec Ideal S1024x1 .f32) (b : Vec Ideal S1024x1 .i32) (WX : Vec Ideal S128x2048 .f32)
    (BX CX CY CZ IV : Vec Ideal S1x2048 .f32) (M2 MP : Vec Ideal S2048x64 .f32) (BB : Vec Ideal S1x64 .f32) (old : Vec Ideal S512x64 .f32) :
    FVec Ideal S512x64 .f32 :=
  let v10 := k0_pay3 X WX BX
  let v37 := k0_pay4 P0 P1 P2 CX CY CZ
  let v38 := k0_pay5 (F := Ideal)
  k0_pay2 (k0_pay7 b) (k0_pay10 v10 v37 v38 IV M2 MP BB) (k0_pay11 v10 v37 v38 IV M2 MP BB) (k0_pay12 v10 v37 v38 IV M2 MP BB b)
    (constant S512x64 .f32 0x00000000#32) old

theorem leaves_apply (X : Vec Ideal S1024x128 .f32) (P0 P1 P2 : Vec Ideal S1024x1 .f32) (b : Vec Ideal S1024x1 .i32) (WX : Vec Ideal S128x2048 .f32)
    (BX CX CY CZ IV : Vec Ideal S1x2048 .f32) (M2 MP : Vec Ideal S2048x64 .f32) (BB : Vec Ideal S1x64 .f32) (old : Vec Ideal S512x64 .f32)
    (n : Fin 512) (g : Fin 64) (G : Fin 1024 → EReal)
    (hG : ∀ r, G r = Feat.leaky (grow X WX BX (erow P0 P1 P2 CX CY CZ IV r) M2 MP BB r g))
    (hR : ∀ r, Feat.Real? (G r) ∨ hot (b (ix2 r 0)) n = 0) :
    leaves X P0 P1 P2 b WX BX CX CY CZ IV M2 MP BB old (ix2 n g) = old (ix2 n g) + ∑ r, hot (b (ix2 r 0)) n * G r := by
  unfold leaves
  unfold k0_pay2 k0_pay12 k0_pay11 k0_pay10 k0_pay9 k0_pay8
  pointwise []
  simp only [pay6_apply, pay7_apply, ← hG]
  have h1 : ∑ x, hot (b (ix2 x 0)) n * (G x - G x) = 0 := Finset.sum_eq_zero fun r _ => (split_mul (hR r)).1
  have h2 : ∑ x, hot (b (ix2 x 0)) n * (G x - G x - (G x - G x)) = 0 := Finset.sum_eq_zero fun r _ => (split_mul (hR r)).2
  rw [h1, h2, add_zero, add_zero]

end Cert.KernelIdeal.Value

end
-- ==== Proof.Step.lean ====
/-
  What one point of the first region leaves in the pooled block, as one expression of its input blocks.
-/
module

public import proofs.«01_k».proof.Proof.Pay
public import proofs.«01_k».proof.Proof.Gen.KernelIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.ShloMosaic.Tactic Idealize.SL.Sem
open Idealize.ShloMosaic.Pipeline (Dat)

namespace Cert.KernelIdeal.Value

open Cert.KernelIdeal Cert.KernelIdeal.Gen

theorem hz : (![0, 0] : Fin 2 → Nat) = fun _ => 0 := funext fun a => by fin_cases a <;> rfl

/-- The three columns of a block of positions. -/
abbrev pcol0 (x : Vec Ideal S1024x3 .f32) : Vec Ideal S1024x1 .f32 := View.ld x (Rect.unit (s := S1024x3) ![0, 0] S1024x1.size inb_S1024x3_S1024x1_0_0)
abbrev pcol1 (x : Vec Ideal S1024x3 .f32) : Vec Ideal S1024x1 .f32 := View.ld x (Rect.unit (s := S1024x3) ![0, 1] S1024x1.size inb_S1024x3_S1024x1_0_1)
abbrev pcol2 (x : Vec Ideal S1024x3 .f32) : Vec Ideal S1024x1 .f32 := View.ld x (Rect.unit (s := S1024x3) ![0, 2] S1024x1.size inb_S1024x3_S1024x1_0_2)

/-- A later point adds its rows to what the block holds. -/
theorem out_B (c : Dev nD) (i : grid0.Coords) (a1 : Memref sig .tc .vmem S1024x128 .f32) (h1 : a1.IsWhole) (a2 : Memref sig .tc .vmem S1024x3 .f32) (h2 : a2.IsWhole) (a3 : Memref sig .tc .vmem S1024x1 .i32) (h3 : a3.IsWhole) (a4 : Memref sig .tc .vmem S128x2048 .f32) (h4 : a4.IsWhole) (a5 : Memref sig .tc .vmem S1x2048 .f32) (h5 : a5.IsWhole) (a6 : Memref sig .tc .vmem S1x2048 .f32) (h6 : a6.IsWhole) (a7 : Memref sig .tc .vmem S1x2048 .f32) (h7 : a7.IsWhole) (a8 : Memref sig .tc .vmem S1x2048 .f32) (h8 : a8.IsWhole) (a9 : Memref sig .tc .vmem S1x2048 .f32) (h9 : a9.IsWhole) (a10 : Memref sig .tc .vmem S2048x64 .f32) (h10 : a10.IsWhole) (a11 : Memref sig .tc .vmem S2048x64 .f32) (h11 : a11.IsWhole) (a12 : Memref sig .tc .vmem S1x64 .f32) (h12 : a12.IsWhole) (a13 : Memref sig .tc .vmem S512x64 .f32) (h13 : a13.IsWhole) (hc : ¬cond0_0 i)
    (x0 : Vec Ideal S1024x128 .f32) (x1 : Vec Ideal S1024x3 .f32) (x2 : Vec Ideal S1024x1 .i32) (x3 : Vec Ideal S128x2048 .f32) (x4 : Vec Ideal S1x2048 .f32) (x5 : Vec Ideal S1x2048 .f32) (x6 : Vec Ideal S1x2048 .f32) (x7 : Vec Ideal S1x2048 .f32) (x8 : Vec Ideal S1x2048 .f32) (x9 : Vec Ideal S2048x64 .f32) (x10 : Vec Ideal S2048x64 .f32) (x11 : Vec Ideal S1x64 .f32) (xo : Vec Ideal S512x64 .f32) :
    out0_B_12 c i a1 h1 a2 h2 a3 h3 a4 h4 a5 h5 a6 h6 a7 h7 a8 h8 a9 h9 a10 h10 a11 h11 a12 h12 a13 h13 hc x0 x1 x2 x3 x4 x5 x6 x7 x8 x9 x10 x11 xo
      = leaves x0 (pcol0 x1) (pcol1 x1) (pcol2 x1) x2 x3 x4 x5 x6 x7 x8 x9 x10 x11 xo := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 hc x0 x1 x2 x3 x4 x5 x6 x7 x8 x9 x10 x11 xo)]
  unfold kernelRun0_B
  dsimp only
  sl_unfold_words
  rw [View.canon_unit_zero hz]
  unfold leaves
  simp only [View.readAt_eq_ld, h1.read_unread, h2.read_unread, h3.read_unread, h4.read_unread, h5.read_unread, h6.read_unread, h7.read_unread, h8.read_unread, h9.read_unread, h10.read_unread, h11.read_unread, h12.read_unread, h13.read_unread,
    View.ld_unit_zero (S := S1024x128) hz, View.ld_unit_zero (S := S1024x1) hz, View.ld_unit_zero (S := S128x2048) hz, View.ld_unit_zero (S := S1x2048) hz, View.ld_unit_zero (S := S2048x64) hz, View.ld_unit_zero (S := S1x64) hz, View.ld_unit_zero (S := S512x64) hz]

/-- The first point stores zeros and then adds its rows. -/
theorem out_A (c : Dev nD) (i : grid0.Coords) (a1 : Memref sig .tc .vmem S1024x128 .f32) (h1 : a1.IsWhole) (a2 : Memref sig .tc .vmem S1024x3 .f32) (h2 : a2.IsWhole) (a3 : Memref sig .tc .vmem S1024x1 .i32) (h3 : a3.IsWhole) (a4 : Memref sig .tc .vmem S128x2048 .f32) (h4 : a4.IsWhole) (a5 : Memref sig .tc .vmem S1x2048 .f32) (h5 : a5.IsWhole) (a6 : Memref sig .tc .vmem S1x2048 .f32) (h6 : a6.IsWhole) (a7 : Memref sig .tc .vmem S1x2048 .f32) (h7 : a7.IsWhole) (a8 : Memref sig .tc .vmem S1x2048 .f32) (h8 : a8.IsWhole) (a9 : Memref sig .tc .vmem S1x2048 .f32) (h9 : a9.IsWhole) (a10 : Memref sig .tc .vmem S2048x64 .f32) (h10 : a10.IsWhole) (a11 : Memref sig .tc .vmem S2048x64 .f32) (h11 : a11.IsWhole) (a12 : Memref sig .tc .vmem S1x64 .f32) (h12 : a12.IsWhole) (a13 : Memref sig .tc .vmem S512x64 .f32) (h13 : a13.IsWhole) (hc : cond0_0 i)
    (x0 : Vec Ideal S1024x128 .f32) (x1 : Vec Ideal S1024x3 .f32) (x2 : Vec Ideal S1024x1 .i32) (x3 : Vec Ideal S128x2048 .f32) (x4 : Vec Ideal S1x2048 .f32) (x5 : Vec Ideal S1x2048 .f32) (x6 : Vec Ideal S1x2048 .f32) (x7 : Vec Ideal S1x2048 .f32) (x8 : Vec Ideal S1x2048 .f32) (x9 : Vec Ideal S2048x64 .f32) (x10 : Vec Ideal S2048x64 .f32) (x11 : Vec Ideal S1x64 .f32) :
    out0_A_12 c i a1 h1 a2 h2 a3 h3 a4 h4 a5 h5 a6 h6 a7 h7 a8 h8 a9 h9 a10 h10 a11 h11 a12 h12 a13 h13 hc x0 x1 x2 x3 x4 x5 x6 x7 x8 x9 x10 x11
      = leaves x0 (pcol0 x1) (pcol1 x1) (pcol2 x1) x2 x3 x4 x5 x6 x7 x8 x9 x10 x11 (k0_pay1 (F := Ideal)) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 hc x0 x1 x2 x3 x4 x5 x6 x7 x8 x9 x10 x11)]
  unfold kernelRun0_A
  dsimp only
  sl_unfold_words
  rw [View.canon_cons_unit_zero (S := S512x64) hz, View.readCov_unit_zero (S := S512x64) _ hz]
  unfold leaves
  simp only [View.readAt_eq_ld, h1.read_unread, h2.read_unread, h3.read_unread, h4.read_unread, h5.read_unread, h6.read_unread, h7.read_unread, h8.read_unread, h9.read_unread, h10.read_unread, h11.read_unread, h12.read_unread,
    View.ld_unit_zero (S := S1024x128) hz, View.ld_unit_zero (S := S1024x1) hz, View.ld_unit_zero (S := S128x2048) hz, View.ld_unit_zero (S := S1x2048) hz, View.ld_unit_zero (S := S2048x64) hz, View.ld_unit_zero (S := S1x64) hz, View.ld_unit_zero (S := S512x64) hz]

end Cert.KernelIdeal.Value

end
-- ==== Proof.Blk.lean ====
/-
  The first region's input blocks read off their arrays.
-/
module

public import proofs.«01_k».proof.Proof.Pay
public import proofs.«01_k».proof.Proof.Gen.KernelIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.ShloMosaic.Tactic Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

/-! ## The blocks, read -/

theorem index_0 : ∀ t : Fin cfg0.N, win0_0.index t 0 = t.val ∧ win0_0.index t 1 = 0 := by decide +kernel
theorem index_1 : ∀ t : Fin cfg0.N, win0_1.index t 0 = t.val ∧ win0_1.index t 1 = 0 := by decide +kernel
theorem index_2 : ∀ t : Fin cfg0.N, win0_2.index t 0 = t.val ∧ win0_2.index t 1 = 0 := by decide +kernel
theorem index_3 : ∀ (t : Fin cfg0.N) (a : Fin 2), win0_3.index t a = 0 := by decide +kernel
theorem index_4 : ∀ (t : Fin cfg0.N) (a : Fin 2), win0_4.index t a = 0 := by decide +kernel
theorem index_5 : ∀ (t : Fin cfg0.N) (a : Fin 2), win0_5.index t a = 0 := by decide +kernel
theorem index_6 : ∀ (t : Fin cfg0.N) (a : Fin 2), win0_6.index t a = 0 := by decide +kernel
theorem index_7 : ∀ (t : Fin cfg0.N) (a : Fin 2), win0_7.index t a = 0 := by decide +kernel
theorem index_8 : ∀ (t : Fin cfg0.N) (a : Fin 2), win0_8.index t a = 0 := by decide +kernel
theorem index_9 : ∀ (t : Fin cfg0.N) (a : Fin 2), win0_9.index t a = 0 := by decide +kernel
theorem index_10 : ∀ (t : Fin cfg0.N) (a : Fin 2), win0_10.index t a = 0 := by decide +kernel
theorem index_11 : ∀ (t : Fin cfg0.N) (a : Fin 2), win0_11.index t a = 0 := by decide +kernel

theorem iblk_3 (c : Dev nD) (t : Fin cfg0.N) : (iblk0 V c 3 t : Vec Ideal S128x2048 .f32) = V c main_v23 := by
  have hz' : (fun a => win0_3.index t a * main_v23.ty.shape.size a) = fun _ => 0 := funext fun a => by rw [index_3 t a, Nat.zero_mul]
  exact Memref.read_access_unit_zero (Elt Ideal) main_v23 hz' (fun a => by rw [congrFun hz' a]; simp) (V c main_v23)

theorem iblk_4 (c : Dev nD) (t : Fin cfg0.N) : (iblk0 V c 4 t : Vec Ideal S1x2048 .f32) = V c main_v26 := by
  have hz' : (fun a => win0_4.index t a * main_v26.ty.shape.size a) = fun _ => 0 := funext fun a => by rw [index_4 t a, Nat.zero_mul]
  exact Memref.read_access_unit_zero (Elt Ideal) main_v26 hz' (fun a => by rw [congrFun hz' a]; simp) (V c main_v26)

theorem iblk_5 (c : Dev nD) (t : Fin cfg0.N) : (iblk0 V c 5 t : Vec Ideal S1x2048 .f32) = V c main_v7 := by
  have hz' : (fun a => win0_5.index t a * main_v7.ty.shape.size a) = fun _ => 0 := funext fun a => by rw [index_5 t a, Nat.zero_mul]
  exact Memref.read_access_unit_zero (Elt Ideal) main_v7 hz' (fun a => by rw [congrFun hz' a]; simp) (V c main_v7)

theorem iblk_6 (c : Dev nD) (t : Fin cfg0.N) : (iblk0 V c 6 t : Vec Ideal S1x2048 .f32) = V c main_v10 := by
  have hz' : (fun a => win0_6.index t a * main_v10.ty.shape.size a) = fun _ => 0 := funext fun a => by rw [index_6 t a, Nat.zero_mul]
  exact Memref.read_access_unit_zero (Elt Ideal) main_v10 hz' (fun a => by rw [congrFun hz' a]; simp) (V c main_v10)

theorem iblk_7 (c : Dev nD) (t : Fin cfg0.N) : (iblk0 V c 7 t : Vec Ideal S1x2048 .f32) = V c main_v13 := by
  have hz' : (fun a => win0_7.index t a * main_v13.ty.shape.size a) = fun _ => 0 := funext fun a => by rw [index_7 t a, Nat.zero_mul]
  exact Memref.read_access_unit_zero (Elt Ideal) main_v13 hz' (fun a => by rw [congrFun hz' a]; simp) (V c main_v13)

theorem iblk_8 (c : Dev nD) (t : Fin cfg0.N) : (iblk0 V c 8 t : Vec Ideal S1x2048 .f32) = V c main_v20 := by
  have hz' : (fun a => win0_8.index t a * main_v20.ty.shape.size a) = fun _ => 0 := funext fun a => by rw [index_8 t a, Nat.zero_mul]
  exact Memref.read_access_unit_zero (Elt Ideal) main_v20 hz' (fun a => by rw [congrFun hz' a]; simp) (V c main_v20)

theorem iblk_9 (c : Dev nD) (t : Fin cfg0.N) : (iblk0 V c 9 t : Vec Ideal S2048x64 .f32) = V c main_v38 := by
  have hz' : (fun a => win0_9.index t a * main_v38.ty.shape.size a) = fun _ => 0 := funext fun a => by rw [index_9 t a, Nat.zero_mul]
  exact Memref.read_access_unit_zero (Elt Ideal) main_v38 hz' (fun a => by rw [congrFun hz' a]; simp) (V c main_v38)

theorem iblk_10 (c : Dev nD) (t : Fin cfg0.N) : (iblk0 V c 10 t : Vec Ideal S2048x64 .f32) = V c main_v44 := by
  have hz' : (fun a => win0_10.index t a * main_v44.ty.shape.size a) = fun _ => 0 := funext fun a => by rw [index_10 t a, Nat.zero_mul]
  exact Memref.read_access_unit_zero (Elt Ideal) main_v44 hz' (fun a => by rw [congrFun hz' a]; simp) (V c main_v44)

theorem iblk_11 (c : Dev nD) (t : Fin cfg0.N) : (iblk0 V c 11 t : Vec Ideal S1x64 .f32) = V c main_v46 := by
  have hz' : (fun a => win0_11.index t a * main_v46.ty.shape.size a) = fun _ => 0 := funext fun a => by rw [index_11 t a, Nat.zero_mul]
  exact Memref.read_access_unit_zero (Elt Ideal) main_v46 hz' (fun a => by rw [congrFun hz' a]; simp) (V c main_v46)

/-- Row `r` of point `t`'s block. -/
def node (t : Fin cfg0.N) (r : Fin 1024) : Fin 100352 :=
  ⟨1024 * t.val + r.val, by have h : t.val < 98 := t.isLt; omega⟩

theorem iblk_0 (c : Dev nD) (t : Fin cfg0.N) (r : Fin 1024) (a : Fin 128) :
    (iblk0 V c 0 t : Vec Ideal S1024x128 .f32) (ix2 r a) = (V c main_v0 : Vec Ideal S100352x128 .f32) (ix2 (node t r) a) := by
  unfold iblk0
  rw [View.read_apply]
  show V c main_v0 _ = V c main_v0 _
  congr 1
  funext b
  apply Fin.ext
  match b with
  | ⟨0, _⟩ => show win0_0.index t 0 * 1024 + 1 * r.val = 1024 * t.val + r.val; rw [(index_0 t).1]; omega
  | ⟨1, _⟩ => show win0_0.index t 1 * 128 + 1 * a.val = a.val; rw [(index_0 t).2]; omega

theorem iblk_1 (c : Dev nD) (t : Fin cfg0.N) (r : Fin 1024) (a : Fin 3) :
    (iblk0 V c 1 t : Vec Ideal S1024x3 .f32) (ix2 r a) = (V c main_v1 : Vec Ideal S100352x3 .f32) (ix2 (node t r) a) := by
  unfold iblk0
  rw [View.read_apply]
  show V c main_v1 _ = V c main_v1 _
  congr 1
  funext b
  apply Fin.ext
  match b with
  | ⟨0, _⟩ => show win0_1.index t 0 * 1024 + 1 * r.val = 1024 * t.val + r.val; rw [(index_1 t).1]; omega
  | ⟨1, _⟩ => show win0_1.index t 1 * 3 + 1 * a.val = a.val; rw [(index_1 t).2]; omega

theorem iblk_2 (c : Dev nD) (t : Fin cfg0.N) (r : Fin 1024) :
    (iblk0 V c 2 t : Vec Ideal S1024x1 .i32) (ix2 r 0) = (V c main_v3 : Vec Ideal S100352x1 .i32) (ix2 (node t r) 0) := by
  unfold iblk0
  rw [View.read_apply]
  show V c main_v3 _ = V c main_v3 _
  congr 1
  funext b
  apply Fin.ext
  match b with
  | ⟨0, _⟩ => show win0_2.index t 0 * 1024 + 1 * r.val = 1024 * t.val + r.val; rw [(index_2 t).1]; omega
  | ⟨1, _⟩ => show win0_2.index t 1 * 1 + 1 * 0 = 0; rw [(index_2 t).2]

end Cert.KernelIdeal.Value

end
-- ==== Proof.Acc.lean ====
/-
  The first region's accumulation: the pooled array after the last point as a double sum over points and rows.
-/
module

public import proofs.«01_k».proof.Proof.Step
public import proofs.«01_k».proof.Proof.Blk
public import proofs.«01_k».proof.Proof.Gen.KernelIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.ShloMosaic.Tactic Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

/-! ## One node's value, by the region's arrays -/

abbrev aX (c : Dev nD) : Vec Ideal S100352x128 .f32 := V c main_v0
abbrev aP (c : Dev nD) : Vec Ideal S100352x3 .f32 := V c main_v1
abbrev aG (c : Dev nD) : Vec Ideal S100352x1 .i32 := V c main_v3
abbrev aWX (c : Dev nD) : Vec Ideal S128x2048 .f32 := V c main_v23
abbrev aBX (c : Dev nD) : Vec Ideal S1x2048 .f32 := V c main_v26
abbrev aCX (c : Dev nD) : Vec Ideal S1x2048 .f32 := V c main_v7
abbrev aCY (c : Dev nD) : Vec Ideal S1x2048 .f32 := V c main_v10
abbrev aCZ (c : Dev nD) : Vec Ideal S1x2048 .f32 := V c main_v13
abbrev aIV (c : Dev nD) : Vec Ideal S1x2048 .f32 := V c main_v20
abbrev aM2 (c : Dev nD) : Vec Ideal S2048x64 .f32 := V c main_v38
abbrev aMP (c : Dev nD) : Vec Ideal S2048x64 .f32 := V c main_v44
abbrev aBB (c : Dev nD) : Vec Ideal S1x64 .f32 := V c main_v46

/-- Node `n`'s radial value at column `j`. -/
def radial (c : Dev nD) (n : Fin 100352) (j : Fin 2048) : EReal :=
  Ideal.exp ((0 - Ideal.sqrt (Feat.sq3 (fun a => aP V c (ix2 n a))
    ![aCX V c (ix2 0 j), aCY V c (ix2 0 j), aCZ V c (ix2 0 j)]))
    * aIV V c (ix2 0 j))

/-- Node `n`'s value of filter `g`, before the slope. -/
def filt (c : Dev nD) (n : Fin 100352) (g : Fin 64) : EReal :=
  (∑ j, (radial V c n j * (∑ a, aX V c (ix2 n a) * aWX V c (ix2 a j)
        + aBX V c (ix2 0 j)) + radial V c n j) * aM2 V c (ix2 j g)
    + ∑ j, radial V c n j * aMP V c (ix2 j g)) + aBB V c (ix2 0 g)

/-- Node `n`'s graph number. -/
def graph (c : Dev nD) (n : Fin 100352) : BitVec 32 := aG V c (ix2 n 0)

/-- What point `t` adds to graph `b`'s sum of filter `g`. -/
def adds (c : Dev nD) (b : Fin 512) (g : Fin 64) (t : Fin cfg0.N) : EReal :=
  ∑ r, hot (graph V c (node t r)) b * Feat.leaky (filt V c (node t r) g)

theorem pcol0_apply (x : Vec Ideal S1024x3 .f32) (r : Fin 1024) : pcol0 x (ix2 r 0) = x (ix2 r 0) := by
  unfold pcol0
  pointwise []
theorem pcol1_apply (x : Vec Ideal S1024x3 .f32) (r : Fin 1024) : pcol1 x (ix2 r 0) = x (ix2 r 1) := by
  unfold pcol1
  pointwise []
theorem pcol2_apply (x : Vec Ideal S1024x3 .f32) (r : Fin 1024) : pcol2 x (ix2 r 0) = x (ix2 r 2) := by
  unfold pcol2
  pointwise []

theorem erow_block (c : Dev nD) (t : Fin cfg0.N) (r : Fin 1024) :
    erow (pcol0 (iblk0 V c 1 t)) (pcol1 (iblk0 V c 1 t)) (pcol2 (iblk0 V c 1 t)) (iblk0 V c 5 t) (iblk0 V c 6 t) (iblk0 V c 7 t) (iblk0 V c 8 t) r
      = radial V c (node t r) := by
  have h0 : pcol0 (iblk0 V c 1 t) (ix2 r 0) = aP V c (ix2 (node t r) 0) :=
    (pcol0_apply _ r).trans (iblk_1 V c t r 0)
  have h1 : pcol1 (iblk0 V c 1 t) (ix2 r 0) = aP V c (ix2 (node t r) 1) :=
    (pcol1_apply _ r).trans (iblk_1 V c t r 1)
  have h2 : pcol2 (iblk0 V c 1 t) (ix2 r 0) = aP V c (ix2 (node t r) 2) :=
    (pcol2_apply _ r).trans (iblk_1 V c t r 2)
  funext j
  unfold erow radial
  rw [h0, h1, h2, iblk_5, iblk_6, iblk_7, iblk_8]
  rfl

theorem grow_block (c : Dev nD) (t : Fin cfg0.N) (r : Fin 1024) (g : Fin 64) :
    grow (iblk0 V c 0 t) (iblk0 V c 3 t) (iblk0 V c 4 t) (radial V c (node t r)) (iblk0 V c 9 t) (iblk0 V c 10 t) (iblk0 V c 11 t) r g
      = filt V c (node t r) g := by
  unfold grow filt
  rw [iblk_3, iblk_4, iblk_9, iblk_10, iblk_11]
  simp only [iblk_0]

theorem leaves_block (c : Dev nD) (t : Fin cfg0.N) (old : Vec Ideal S512x64 .f32) (b : Fin 512) (g : Fin 64)
    (hR : ∀ n, Feat.Real? (Feat.leaky (filt V c n g)) ∨ hot (graph V c n) b = 0) :
    leaves (iblk0 V c 0 t) (pcol0 (iblk0 V c 1 t)) (pcol1 (iblk0 V c 1 t)) (pcol2 (iblk0 V c 1 t)) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) old (ix2 b g)
      = old (ix2 b g) + adds V c b g t := by
  refine (leaves_apply _ _ _ _ _ _ _ _ _ _ _ _ _ _ _ b g (fun r => Feat.leaky (filt V c (node t r) g)) (fun r => ?_) (fun r => ?_)).trans ?_
  · rw [erow_block, grow_block]
  · rw [iblk_2]
    exact hR _
  · unfold adds
    simp only [iblk_2]
    rfl

/-! ## The sum over the points -/

theorem outsAt_apply (c : Dev nD) (b : Fin 512) (g : Fin 64)
    (hR : ∀ n, Feat.Real? (Feat.leaky (filt V c n g)) ∨ hot (graph V c n) b = 0) :
    ∀ (n : ℕ) (h : n < cfg0.N), outsAt0 V c n h (ix2 b g) = ∑ t : Fin (n + 1), adds V c b g ⟨t.val, lt_of_lt_of_le t.isLt h⟩
  | 0, h => by
    rw [show outsAt0 V c 0 h = _ from (outsAt0_A V c ⟨0, h⟩ rfl).trans (out_A ..), leaves_block V c ⟨0, h⟩ _ b g hR]
    unfold k0_pay1
    pointwise []
    rw [Fin.sum_univ_one]
  | n + 1, h => by
    have hN : cfg0.N = 98 := rfl
    have hB : ¬(⟨n + 1, h⟩ : Fin cfg0.N).val % 98 = 0 := by dsimp only; omega
    rw [show outsAt0 V c (n + 1) h = _ from (outsAt0_B V c ⟨n + 1, h⟩ hB).trans (out_B ..), leaves_block V c ⟨n + 1, h⟩ _ b g hR]
    show outsAt0 V c n _ (ix2 b g) + _ = _
    rw [outsAt_apply c b g hR n, Fin.sum_univ_castSucc (n := n + 1)]
    rfl

/-! ## The pooled array -/

/-- The last point. -/
abbrev last : Fin cfg0.N := ⟨97, by decide⟩

theorem index_12 : ∀ (t : Fin cfg0.N) (a : Fin 2), win0_12.index t a = 0 := by decide +kernel

theorem flushed_pooled (c : Dev nD) (P : Buf (Elt Ideal) ((c : Thread nD τ).loc main_v47)) (hP : outsAt0 V c last.val last.isLt = P)
    (t : Fin cfg0.N) (hf : (cfg0.win 12).flush t = true) :
    (dat0 V c).flushed 12 t = ((cfg0.win 12).blk t).view.read (Elt Ideal) P := by
  have h97 : t.val = 97 := by have := (flush0_12 t).mp hf; have h : t.val < 98 := t.isLt; omega
  obtain rfl : t = last := Fin.ext h97
  have hw : (dat0 V c).after 12 last = P := (after0_12 V c last).trans hP
  show (cfg0.win 12).cut (grid0.coords last) ((dat0 V c).after 12 last) = _
  rw [hw]
  have hz' : (fun a => win0_12.index last a * main_v47.ty.shape.size a) = fun _ => 0 := funext fun a => by rw [index_12 last a, Nat.zero_mul]
  exact (Memref.read_access_unit_zero (Elt Ideal) main_v47 hz' (fun a => by rw [congrFun hz' a]; simp) P).symm

theorem final_pooled (c : Dev nD) (P : Buf (Elt Ideal) ((c : Thread nD τ).loc main_v47)) (hP : outsAt0 V c last.val last.isLt = P) :
    (dat0 V c).arrAt 12 cfg0.N = P :=
  (dat0 V c).arrAt_eq_of_cover 12 P (flushed_pooled V c P hP) fun i =>
    ⟨last, (flush0_12 last).mpr rfl, by
      show i ∈ ((View.whole main_v47).slice (win0_12.rect last)).set
      rw [View.set_slice_whole, Rect.mem_set_unit]
      intro a
      have h0 : (i 0 : Nat) < 512 := (i 0).isLt
      have h1 : (i 1 : Nat) < 64 := (i 1).isLt
      match a with
      | ⟨0, _⟩ => show win0_12.index last 0 * win0_12.size 0 ≤ (i 0 : Nat) ∧ (i 0 : Nat) < win0_12.index last 0 * win0_12.size 0 + win0_12.xsize (grid0.coords last) 0
                  rw [show win0_12.index last 0 * win0_12.size 0 = 0 from by decide +kernel, show win0_12.xsize (grid0.coords last) 0 = 512 from by decide +kernel]; omega
      | ⟨1, _⟩ => show win0_12.index last 1 * win0_12.size 1 ≤ (i 1 : Nat) ∧ (i 1 : Nat) < win0_12.index last 1 * win0_12.size 1 + win0_12.xsize (grid0.coords last) 1
                  rw [show win0_12.index last 1 * win0_12.size 1 = 0 from by decide +kernel, show win0_12.xsize (grid0.coords last) 1 = 64 from by decide +kernel]; omega⟩

/-- The pooled array: every graph's sum over the points and their rows. -/
theorem pooled_apply (c : Dev nD) (b : Fin 512) (g : Fin 64)
    (hR : ∀ n, Feat.Real? (Feat.leaky (filt V c n g)) ∨ hot (graph V c n) b = 0) :
    ((dat0 V c).arrAt 12 cfg0.N : Vec Ideal S512x64 .f32) (ix2 b g)
      = ∑ t : Fin 98, ∑ r : Fin 1024, hot (graph V c (node t r)) b * Feat.leaky (filt V c (node t r) g) := by
  rw [final_pooled V c _ rfl]
  exact outsAt_apply V c b g hR 97 last.isLt

end Cert.KernelIdeal.Value

end
-- ==== Proof.Mlp.lean ====
/-
  The dense head: a linear layer and a batch normalization as plain functions, and the second kernel body's vector
  expressions read at an index as these.
-/
module

public import proofs.«01_k».proof.Proof.Gen.KernelIdeal.Skeleton
public import proofs.«01_k».proof.Proof.EMath
public import Idealize.ShloMosaic.Lib.Pointwise

@[expose] public section

set_option maxRecDepth 16384

noncomputable section

namespace Cert.Feat

open Idealize.ShloMosaic

/-- A linear layer's value. -/
def lin {K : ℕ} (P : Fin K → EReal) (W : Fin K → EReal) (b : EReal) : EReal := ∑ k, P k * W k + b

/-- The mean over the batch. -/
def mean (h : Fin 512 → EReal) : EReal := Ideal.div (∑ n, h n) (Ideal.ofBits .f32 0x44000000#32)

/-- A column normalized over the batch, scaled and shifted. -/
def bnorm (h : Fin 512 → EReal) (g be : EReal) (n : Fin 512) : EReal :=
  Ideal.div (h n - mean h) (Ideal.sqrt (mean (fun n => (h n - mean h) * (h n - mean h)) + Ideal.ofBits .f32 0x3727C5AC#32)) * g + be

end Cert.Feat

namespace Cert.KernelIdeal.Value

open Idealize.ShloMosaic Idealize.ShloMosaic.Tactic
open Cert.KernelIdeal Cert.KernelIdeal.Gen

theorem k1_pay2_apply (P : Vec Ideal S512x64 .f32) (W : Vec Ideal S64x128 .f32) (b g be : Vec Ideal S1x128 .f32) (n : Fin 512) (o : Fin 128) :
    k1_pay2 (F := Ideal) P W b g be (ix2 n o)
      = Feat.leaky (Feat.bnorm (fun n => Feat.lin (fun k => P (ix2 n k)) (fun k => W (ix2 k o)) (b (ix2 0 o))) (g (ix2 0 o)) (be (ix2 0 o)) n) := by
  unfold k1_pay2
  pointwise []
  rfl

theorem k1_pay1_apply (P : Vec Ideal S512x128 .f32) (W : Vec Ideal S128x128 .f32) (b g be : Vec Ideal S1x128 .f32) (n : Fin 512) (o : Fin 128) :
    k1_pay1 (F := Ideal) P W b g be (ix2 n o)
      = Feat.bnorm (fun n => Feat.lin (fun k => P (ix2 n k)) (fun k => W (ix2 k o)) (b (ix2 0 o))) (g (ix2 0 o)) (be (ix2 0 o)) n := by
  unfold k1_pay1
  pointwise []
  rfl

end Cert.KernelIdeal.Value

end
-- ==== Proof.Head.lean ====
/-
  The second region: its blocks are whole arrays, its one point leaves the dense head's value in the result array.
-/
module

public import proofs.«01_k».proof.Proof.Mlp
public import proofs.«01_k».proof.Proof.Gen.KernelIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.ShloMosaic.Tactic Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

theorem index1_0 : ∀ (t : Fin cfg1.N) (a : Fin 2), win1_0.index t a = 0 := by decide +kernel
theorem index1_1 : ∀ (t : Fin cfg1.N) (a : Fin 2), win1_1.index t a = 0 := by decide +kernel
theorem index1_2 : ∀ (t : Fin cfg1.N) (a : Fin 2), win1_2.index t a = 0 := by decide +kernel
theorem index1_3 : ∀ (t : Fin cfg1.N) (a : Fin 2), win1_3.index t a = 0 := by decide +kernel
theorem index1_4 : ∀ (t : Fin cfg1.N) (a : Fin 2), win1_4.index t a = 0 := by decide +kernel
theorem index1_5 : ∀ (t : Fin cfg1.N) (a : Fin 2), win1_5.index t a = 0 := by decide +kernel
theorem index1_6 : ∀ (t : Fin cfg1.N) (a : Fin 2), win1_6.index t a = 0 := by decide +kernel
theorem index1_7 : ∀ (t : Fin cfg1.N) (a : Fin 2), win1_7.index t a = 0 := by decide +kernel
theorem index1_8 : ∀ (t : Fin cfg1.N) (a : Fin 2), win1_8.index t a = 0 := by decide +kernel
theorem index1_9 : ∀ (t : Fin cfg1.N) (a : Fin 2), win1_9.index t a = 0 := by decide +kernel

abbrev hd0 (c : Dev nD) : Vec Ideal S512x64 .f32 := V c main_v47

theorem head_0 (c : Dev nD) (t : Fin cfg1.N) : (iblk1 V c 0 t : Vec Ideal S512x64 .f32) = hd0 V c := by
  have hz' : (fun a => win1_0.index t a * main_v47.ty.shape.size a) = fun _ => 0 := funext fun a => by rw [index1_0 t a, Nat.zero_mul]
  exact Memref.read_access_unit_zero (Elt Ideal) main_v47 hz' (fun a => by rw [congrFun hz' a]; simp) (V c main_v47)

abbrev hd1 (c : Dev nD) : Vec Ideal S64x128 .f32 := V c main_v48

theorem head_1 (c : Dev nD) (t : Fin cfg1.N) : (iblk1 V c 1 t : Vec Ideal S64x128 .f32) = hd1 V c := by
  have hz' : (fun a => win1_1.index t a * main_v48.ty.shape.size a) = fun _ => 0 := funext fun a => by rw [index1_1 t a, Nat.zero_mul]
  exact Memref.read_access_unit_zero (Elt Ideal) main_v48 hz' (fun a => by rw [congrFun hz' a]; simp) (V c main_v48)

abbrev hd2 (c : Dev nD) : Vec Ideal S1x128 .f32 := V c main_v49

theorem head_2 (c : Dev nD) (t : Fin cfg1.N) : (iblk1 V c 2 t : Vec Ideal S1x128 .f32) = hd2 V c := by
  have hz' : (fun a => win1_2.index t a * main_v49.ty.shape.size a) = fun _ => 0 := funext fun a => by rw [index1_2 t a, Nat.zero_mul]
  exact Memref.read_access_unit_zero (Elt Ideal) main_v49 hz' (fun a => by rw [congrFun hz' a]; simp) (V c main_v49)

abbrev hd3 (c : Dev nD) : Vec Ideal S1x128 .f32 := V c main_v50

theorem head_3 (c : Dev nD) (t : Fin cfg1.N) : (iblk1 V c 3 t : Vec Ideal S1x128 .f32) = hd3 V c := by
  have hz' : (fun a => win1_3.index t a * main_v50.ty.shape.size a) = fun _ => 0 := funext fun a => by rw [index1_3 t a, Nat.zero_mul]
  exact Memref.read_access_unit_zero (Elt Ideal) main_v50 hz' (fun a => by rw [congrFun hz' a]; simp) (V c main_v50)

abbrev hd4 (c : Dev nD) : Vec Ideal S1x128 .f32 := V c main_v51

theorem head_4 (c : Dev nD) (t : Fin cfg1.N) : (iblk1 V c 4 t : Vec Ideal S1x128 .f32) = hd4 V c := by
  have hz' : (fun a => win1_4.index t a * main_v51.ty.shape.size a) = fun _ => 0 := funext fun a => by rw [index1_4 t a, Nat.zero_mul]
  exact Memref.read_access_unit_zero (Elt Ideal) main_v51 hz' (fun a => by rw [congrFun hz' a]; simp) (V c main_v51)

abbrev hd5 (c : Dev nD) : Vec Ideal S128x128 .f32 := V c main_v52

theorem head_5 (c : Dev nD) (t : Fin cfg1.N) : (iblk1 V c 5 t : Vec Ideal S128x128 .f32) = hd5 V c := by
  have hz' : (fun a => win1_5.index t a * main_v52.ty.shape.size a) = fun _ => 0 := funext fun a => by rw [index1_5 t a, Nat.zero_mul]
  exact Memref.read_access_unit_zero (Elt Ideal) main_v52 hz' (fun a => by rw [congrFun hz' a]; simp) (V c main_v52)

abbrev hd6 (c : Dev nD) : Vec Ideal S1x128 .f32 := V c main_v53

theorem head_6 (c : Dev nD) (t : Fin cfg1.N) : (iblk1 V c 6 t : Vec Ideal S1x128 .f32) = hd6 V c := by
  have hz' : (fun a => win1_6.index t a * main_v53.ty.shape.size a) = fun _ => 0 := funext fun a => by rw [index1_6 t a, Nat.zero_mul]
  exact Memref.read_access_unit_zero (Elt Ideal) main_v53 hz' (fun a => by rw [congrFun hz' a]; simp) (V c main_v53)

abbrev hd7 (c : Dev nD) : Vec Ideal S1x128 .f32 := V c main_v54

theorem head_7 (c : Dev nD) (t : Fin cfg1.N) : (iblk1 V c 7 t : Vec Ideal S1x128 .f32) = hd7 V c := by
  have hz' : (fun a => win1_7.index t a * main_v54.ty.shape.size a) = fun _ => 0 := funext fun a => by rw [index1_7 t a, Nat.zero_mul]
  exact Memref.read_access_unit_zero (Elt Ideal) main_v54 hz' (fun a => by rw [congrFun hz' a]; simp) (V c main_v54)

abbrev hd8 (c : Dev nD) : Vec Ideal S1x128 .f32 := V c main_v55

theorem head_8 (c : Dev nD) (t : Fin cfg1.N) : (iblk1 V c 8 t : Vec Ideal S1x128 .f32) = hd8 V c := by
  have hz' : (fun a => win1_8.index t a * main_v55.ty.shape.size a) = fun _ => 0 := funext fun a => by rw [index1_8 t a, Nat.zero_mul]
  exact Memref.read_access_unit_zero (Elt Ideal) main_v55 hz' (fun a => by rw [congrFun hz' a]; simp) (V c main_v55)

/-- The first layer's value, activated. -/
def hidden (c : Dev nD) (n : Fin 512) (o : Fin 128) : EReal :=
  Feat.leaky (Feat.bnorm (fun n => Feat.lin (fun k => hd0 V c (ix2 n k)) (fun k => hd1 V c (ix2 k o)) (hd2 V c (ix2 0 o)))
    (hd3 V c (ix2 0 o)) (hd4 V c (ix2 0 o)) n)

/-- The second layer's value. -/
def logits (c : Dev nD) (n : Fin 512) (o : Fin 128) : EReal :=
  Feat.bnorm (fun n => Feat.lin (fun k => hidden V c n k) (fun k => hd5 V c (ix2 k o)) (hd6 V c (ix2 0 o)))
    (hd7 V c (ix2 0 o)) (hd8 V c (ix2 0 o)) n

theorem hz1 : (![0, 0] : Fin 2 → Nat) = fun _ => 0 := by decide

theorem out1_apply (x0 : Vec Ideal S512x64 .f32) (x1 : Vec Ideal S64x128 .f32) (x2 x3 x4 : Vec Ideal S1x128 .f32)
    (x5 : Vec Ideal S128x128 .f32) (x6 x7 x8 : Vec Ideal S1x128 .f32) :
    out1_9 x0 x1 x2 x3 x4 x5 x6 x7 x8 = k1_pay1 (k1_pay2 x0 x1 x2 x3 x4) x5 x6 x7 x8 := by
  unfold out1_9
  rw [View.canon_cons_unit_zero (S := S512x128) hz1, View.ld_unit_zero (S := S512x64) hz1, View.ld_unit_zero (S := S64x128) hz1,
    View.ld_unit_zero (S := S128x128) hz1]
  simp only [View.ld_unit_zero (S := S1x128) hz1]

/-- The one point. -/
abbrev only : Fin cfg1.N := ⟨0, by decide⟩

theorem flushed_head (c : Dev nD) (P : Buf (Elt Ideal) ((c : Thread nD τ).loc main_v56)) (hP : (dat1 V c).after 9 only = P)
    (t : Fin cfg1.N) (hf : (cfg1.win 9).flush t = true) :
    (dat1 V c).flushed 9 t = ((cfg1.win 9).blk t).view.read (Elt Ideal) P := by
  have h97 : t.val = 0 := by have h : t.val < 1 := t.isLt; omega
  obtain rfl : t = only := Fin.ext h97
  show (cfg1.win 9).cut (grid1.coords only) ((dat1 V c).after 9 only) = _
  rw [hP]
  have hz' : (fun a => win1_9.index only a * main_v56.ty.shape.size a) = fun _ => 0 := funext fun a => by rw [index1_9 only a, Nat.zero_mul]
  exact (Memref.read_access_unit_zero (Elt Ideal) main_v56 hz' (fun a => by rw [congrFun hz' a]; simp) P).symm

theorem final_head (c : Dev nD) (P : Buf (Elt Ideal) ((c : Thread nD τ).loc main_v56)) (hP : (dat1 V c).after 9 only = P) :
    (dat1 V c).arrAt 9 cfg1.N = P :=
  (dat1 V c).arrAt_eq_of_cover 9 P (flushed_head V c P hP) fun i =>
    ⟨only, flush1_9 only, by
      show i ∈ ((View.whole main_v56).slice (win1_9.rect only)).set
      rw [View.set_slice_whole, Rect.mem_set_unit]
      intro a
      have h0 : (i 0 : Nat) < 512 := (i 0).isLt
      have h1 : (i 1 : Nat) < 128 := (i 1).isLt
      match a with
      | ⟨0, _⟩ => show win1_9.index only 0 * win1_9.size 0 ≤ (i 0 : Nat) ∧ (i 0 : Nat) < win1_9.index only 0 * win1_9.size 0 + win1_9.xsize (grid1.coords only) 0
                  rw [show win1_9.index only 0 * win1_9.size 0 = 0 from by decide +kernel, show win1_9.xsize (grid1.coords only) 0 = 512 from by decide +kernel]; omega
      | ⟨1, _⟩ => show win1_9.index only 1 * win1_9.size 1 ≤ (i 1 : Nat) ∧ (i 1 : Nat) < win1_9.index only 1 * win1_9.size 1 + win1_9.xsize (grid1.coords only) 1
                  rw [show win1_9.index only 1 * win1_9.size 1 = 0 from by decide +kernel, show win1_9.xsize (grid1.coords only) 1 = 128 from by decide +kernel]; omega⟩

/-- The result array of the second region, at an index. -/
theorem head_apply (c : Dev nD) (n : Fin 512) (o : Fin 128) :
    ((dat1 V c).arrAt 9 cfg1.N : Vec Ideal S512x128 .f32) (ix2 n o) = logits V c n o := by
  rw [final_head V c _ (after1_9 V c only), out1_apply, head_0, head_1, head_2, head_3, head_4, head_5, head_6, head_7, head_8,
    k1_pay1_apply]
  simp only [k1_pay2_apply]
  rfl

end Cert.KernelIdeal.Value

end
-- ==== Proof.Host.lean ====
/-
  The arrays the host operations prepare, read at an index from the arguments.
-/
module

public import proofs.«01_k».proof.Proof.Acc
public import proofs.«01_k».proof.Proof.Head

@[expose] public section

set_option maxRecDepth 16384
set_option maxHeartbeats 1000000

noncomputable section

open Idealize.ShloMosaic Idealize.ShloMosaic.TcCoe Idealize.ShloMosaic.Tactic Idealize.SL.Sem Idealize.ShloMosaic.StableHlo
open Cert.Feat (col)

namespace Cert.KernelIdeal.Value

open Cert.KernelIdeal Cert.KernelIdeal.Gen

theorem col_div (f : Fin 64) (k : Fin 32) (h : (col f k).val / 32 < 64) : (⟨(col f k).val / 32, h⟩ : Fin 64) = f :=
  Fin.ext (by show (32 * f.val + k.val) / 32 = f.val; omega)

theorem col_mod (f : Fin 64) (k : Fin 32) (h : (col f k).val % 32 < 32) : (⟨(col f k).val % 32, h⟩ : Fin 32) = k :=
  Fin.ext (by show (32 * f.val + k.val) % 32 = k.val; omega)

theorem col_div_val (f : Fin 64) (k : Fin 32) : (col f k).val / 32 = f.val := by
  show (32 * f.val + k.val) / 32 = f.val; omega

/-- The identity matrix's entry as the host operations make it: two counters compared, the bit converted. -/
theorem eye_word (f g : Fin 64) :
    FloatOps.uitofp (F := Ideal) FTy.f32 (IntOp.cmpi CmpIPredicate.eq (IntOp.addi (BitVec.ofNat 32 f.val) 0#32) (BitVec.ofNat 32 g.val))
      = Feat.eye f g := by
  have hw : IntOp.addi (BitVec.ofNat 32 f.val) 0#32 = BitVec.ofNat 32 f.val := BitVec.add_zero _
  have he : (BitVec.ofNat 32 f.val = BitVec.ofNat 32 g.val) ↔ f = g := by
    constructor
    · intro h
      have := congrArg BitVec.toNat h
      simp only [BitVec.toNat_ofNat] at this
      exact Fin.ext (by omega)
    · rintro rfl; rfl
  rw [hw]
  unfold Feat.eye
  by_cases h : f = g
  · subst h
    rw [if_pos rfl]
    show (((IntOp.cmpi CmpIPredicate.eq (BitVec.ofNat 32 f.val) (BitVec.ofNat 32 f.val)).toNat : ℝ) : EReal) = 1
    simp [IntOp.cmpi]
  · rw [if_neg h]
    have hne : ¬ (BitVec.ofNat 32 f.val = BitVec.ofNat 32 g.val) := fun e => h (he.mp e)
    show (((IntOp.cmpi CmpIPredicate.eq (BitVec.ofNat 32 f.val) (BitVec.ofNat 32 g.val)).toNat : ℝ) : EReal) = 0
    simp [IntOp.cmpi, hne]

variable (U : Valuation τ sig (Elt Ideal))

/-! The arguments and the padded arrays in a valuation. -/

abbrev u3 : Vec Ideal S64x32x3 .f32 := U (Proc.devRef .tc main_arg3)
abbrev u4 : Vec Ideal S64x32 .f32 := U (Proc.devRef .tc main_arg4)
abbrev u5 : Vec Ideal S64x128 .f32 := U (Proc.devRef .tc main_arg5)
abbrev u6 : Vec Ideal S64 .f32 := U (Proc.devRef .tc main_arg6)
abbrev u7 : Vec Ideal S64x32 .f32 := U (Proc.devRef .tc main_arg7)
abbrev u9 : Vec Ideal S64x32 .f32 := U (Proc.devRef .tc main_arg9)
abbrev u8 : Vec Ideal S64 .f32 := U (Proc.devRef .tc main_arg8)
abbrev u10 : Vec Ideal S64 .f32 := U (Proc.devRef .tc main_arg10)
abbrev u0 : Vec Ideal S100000x128 .f32 := U (Proc.devRef .tc main_arg0)
abbrev u1 : Vec Ideal S100000x3 .f32 := U (Proc.devRef .tc main_arg1)
abbrev u2 : Vec Ideal S100000 .i32 := U (Proc.devRef .tc main_arg2)
abbrev u11 : Vec Ideal S128x64 .f32 := U (Proc.devRef .tc main_arg11)
abbrev u15 : Vec Ideal S128x128 .f32 := U (Proc.devRef .tc main_arg15)
abbrev u12 : Vec Ideal S128 .f32 := U (Proc.devRef .tc main_arg12)
abbrev u13 : Vec Ideal S128 .f32 := U (Proc.devRef .tc main_arg13)
abbrev u14 : Vec Ideal S128 .f32 := U (Proc.devRef .tc main_arg14)
abbrev u16 : Vec Ideal S128 .f32 := U (Proc.devRef .tc main_arg16)
abbrev u17 : Vec Ideal S128 .f32 := U (Proc.devRef .tc main_arg17)
abbrev u18 : Vec Ideal S128 .f32 := U (Proc.devRef .tc main_arg18)

theorem v3_apply (n : Fin 100352) :
    (StableHlo.after hostOps0_6 U (Proc.devRef .tc main_v3) : Vec Ideal S100352x1 .i32) (ix2 n 0)
      = (U (Proc.devRef .tc main_v2) : Vec Ideal S100352 .i32) (ix1 n) := by
  unfold hostOps0_6
  after_results_simp
  pointwise []

theorem v7_apply (f : Fin 64) (k : Fin 32) :
    (StableHlo.after hostOps0_6 U (Proc.devRef .tc main_v7) : Vec Ideal S1x2048 .f32) (ix2 0 (col f k))
      = u3 U (ix3 f k 0) := by
  unfold hostOps0_6
  after_results_simp
  pointwise []
  simp only [col_div, col_mod]

theorem v10_apply (f : Fin 64) (k : Fin 32) :
    (StableHlo.after hostOps0_6 U (Proc.devRef .tc main_v10) : Vec Ideal S1x2048 .f32) (ix2 0 (col f k))
      = u3 U (ix3 f k 1) := by
  unfold hostOps0_6
  after_results_simp
  pointwise []
  simp only [col_div, col_mod]

theorem v13_apply (f : Fin 64) (k : Fin 32) :
    (StableHlo.after hostOps0_6 U (Proc.devRef .tc main_v13) : Vec Ideal S1x2048 .f32) (ix2 0 (col f k))
      = u3 U (ix3 f k 2) := by
  unfold hostOps0_6
  after_results_simp
  pointwise []
  simp only [col_div, col_mod]

theorem v20_apply (f : Fin 64) (k : Fin 32) :
    (StableHlo.after hostOps0_6 U (Proc.devRef .tc main_v20) : Vec Ideal S1x2048 .f32) (ix2 0 (col f k))
      = Ideal.div 1 (2 * (u4 U (ix2 f k) * u4 U (ix2 f k))) := by
  unfold hostOps0_6
  after_results_simp
  pointwise []
  simp only [col_div, col_mod, Feat.ofBits_two]

theorem v23_apply (x : Fin 128) (f : Fin 64) (k : Fin 32) :
    (StableHlo.after hostOps0_6 U (Proc.devRef .tc main_v23) : Vec Ideal S128x2048 .f32) (ix2 x (col f k))
      = u5 U (ix2 f x) := by
  unfold hostOps0_6
  after_results_simp
  pointwise []
  simp only [col_div, col_mod]

theorem v26_apply (f : Fin 64) (k : Fin 32) :
    (StableHlo.after hostOps0_6 U (Proc.devRef .tc main_v26) : Vec Ideal S1x2048 .f32) (ix2 0 (col f k))
      = u6 U (ix1 f) := by
  unfold hostOps0_6
  after_results_simp
  pointwise []
  simp only [col_div, col_mod]

theorem v38_apply (f : Fin 64) (k : Fin 32) (g : Fin 64) :
    (StableHlo.after hostOps0_6 U (Proc.devRef .tc main_v38) : Vec Ideal S2048x64 .f32) (ix2 (col f k) g)
      = u7 U (ix2 f k) * Feat.eye f g := by
  unfold hostOps0_6
  after_results_simp
  pointwise []
  simp only [col_div, col_mod]
  rw [col_div_val, eye_word]

theorem v44_apply (f : Fin 64) (k : Fin 32) (g : Fin 64) :
    (StableHlo.after hostOps0_6 U (Proc.devRef .tc main_v44) : Vec Ideal S2048x64 .f32) (ix2 (col f k) g)
      = u9 U (ix2 f k) * Feat.eye f g := by
  unfold hostOps0_6
  after_results_simp
  pointwise []
  simp only [col_div, col_mod]
  rw [col_div_val, eye_word]

theorem v46_apply (g : Fin 64) :
    (StableHlo.after hostOps0_6 U (Proc.devRef .tc main_v46) : Vec Ideal S1x64 .f32) (ix2 0 g)
      = u8 U (ix1 g) + u10 U (ix1 g) := by
  unfold hostOps0_6
  after_results_simp
  pointwise []

/-! The padded inputs: below the node count the argument, past it the padding value. -/

theorem pad_x (x : Vec Ideal S100000x128 .f32) (z : Vec Ideal S_ .f32) (n : Fin 100352) (a : Fin 128) (h : n.val < 100000) :
    pad S100352x128 ![0, 0] ![352, 0] ![0, 0] x z pads_S100000x128_S100352x128_03520_000 h_S_ (ix2 n a) = x (ix2 ⟨n.val, h⟩ a) := by
  pointwise []
  rw [dif_pos h]

theorem pad_p (x : Vec Ideal S100000x3 .f32) (z : Vec Ideal S_ .f32) (n : Fin 100352) (a : Fin 3) (h : n.val < 100000) :
    pad S100352x3 ![0, 0] ![352, 0] ![0, 0] x z pads_S100000x3_S100352x3_03520_000 h_S_ (ix2 n a) = x (ix2 ⟨n.val, h⟩ a) := by
  pointwise []
  rw [dif_pos h]

theorem pad_g (x : Vec Ideal S100000 .i32) (z : Vec Ideal S_ .i32) (n : Fin 100352) :
    pad S100352 ![0] ![352] ![0] x z pads_S100000_S100352_03520 h_S_ (ix1 n)
      = if h : n.val < 100000 then x (ix1 ⟨n.val, h⟩) else z ix0 := by
  pointwise []
  rw [show Shape.Idx.first h_S_ = ix0 from funext fun a => a.elim0]

theorem v0_apply (n : Fin 100352) (x : Fin 128) (h : n.val < 100000) :
    (StableHlo.after hostOps0_1 U (Proc.devRef .tc main_v0) : Vec Ideal S100352x128 .f32) (ix2 n x)
      = u0 U (ix2 ⟨n.val, h⟩ x) := by
  unfold hostOps0_1
  after_results_simp
  exact pad_x _ _ n x h

theorem v1_apply (n : Fin 100352) (x : Fin 3) (h : n.val < 100000) :
    (StableHlo.after hostOps0_3 U (Proc.devRef .tc main_v1) : Vec Ideal S100352x3 .f32) (ix2 n x)
      = u1 U (ix2 ⟨n.val, h⟩ x) := by
  unfold hostOps0_3
  after_results_simp
  exact pad_p _ _ n x h

theorem v2_apply (n : Fin 100352) :
    (StableHlo.after hostOps0_5 U (Proc.devRef .tc main_v2) : Vec Ideal S100352 .i32) (ix1 n)
      = if h : n.val < 100000 then u2 U (ix1 ⟨n.val, h⟩) else (U (Proc.devRef .tc main_c_1) : Vec Ideal S_ .i32) ix0 := by
  unfold hostOps0_5
  after_results_simp
  exact pad_g _ _ n

theorem c1_apply  :
    (StableHlo.after hostOps0_4 U (Proc.devRef .tc main_c_1) : Vec Ideal S_ .i32) (ix0)
      = 512#32 := by
  unfold hostOps0_4
  after_results_simp
  pointwise []

/-! The dense head's operands. -/

theorem v48_apply (k : Fin 64) (o : Fin 128) :
    (StableHlo.after hostOps1 U (Proc.devRef .tc main_v48) : Vec Ideal S64x128 .f32) (ix2 k o)
      = u11 U (ix2 o k) := by
  unfold hostOps1
  after_results_simp
  pointwise []

theorem v52_apply (k o : Fin 128) :
    (StableHlo.after hostOps1 U (Proc.devRef .tc main_v52) : Vec Ideal S128x128 .f32) (ix2 k o)
      = u15 U (ix2 o k) := by
  unfold hostOps1
  after_results_simp
  pointwise []

theorem v49_apply (o : Fin 128) :
    (StableHlo.after hostOps1 U (Proc.devRef .tc main_v49) : Vec Ideal S1x128 .f32) (ix2 0 o)
      = u12 U (ix1 o) := by
  unfold hostOps1
  after_results_simp
  pointwise []

theorem v50_apply (o : Fin 128) :
    (StableHlo.after hostOps1 U (Proc.devRef .tc main_v50) : Vec Ideal S1x128 .f32) (ix2 0 o)
      = u13 U (ix1 o) := by
  unfold hostOps1
  after_results_simp
  pointwise []

theorem v51_apply (o : Fin 128) :
    (StableHlo.after hostOps1 U (Proc.devRef .tc main_v51) : Vec Ideal S1x128 .f32) (ix2 0 o)
      = u14 U (ix1 o) := by
  unfold hostOps1
  after_results_simp
  pointwise []

theorem v53_apply (o : Fin 128) :
    (StableHlo.after hostOps1 U (Proc.devRef .tc main_v53) : Vec Ideal S1x128 .f32) (ix2 0 o)
      = u16 U (ix1 o) := by
  unfold hostOps1
  after_results_simp
  pointwise []

theorem v54_apply (o : Fin 128) :
    (StableHlo.after hostOps1 U (Proc.devRef .tc main_v54) : Vec Ideal S1x128 .f32) (ix2 0 o)
      = u17 U (ix1 o) := by
  unfold hostOps1
  after_results_simp
  pointwise []

theorem v55_apply (o : Fin 128) :
    (StableHlo.after hostOps1 U (Proc.devRef .tc main_v55) : Vec Ideal S1x128 .f32) (ix2 0 o)
      = u18 U (ix1 o) := by
  unfold hostOps1
  after_results_simp
  pointwise []

end Cert.KernelIdeal.Value

end
-- ==== Proof.KVal.lean ====
/-
  The kernel's value: the pooled array and the result as plain functions of the arguments, when those the split of the
  features into three parts needs finite are finite and no width is zero.
-/
module

public import proofs.«01_k».proof.Proof.Host
public import proofs.«01_k».proof.Proof.KRun

@[expose] public section

set_option maxRecDepth 16384

noncomputable section

open Idealize.ShloMosaic Idealize.ShloMosaic.TcCoe Idealize.ShloMosaic.Tactic Idealize.SL.Sem
open Cert.Feat (col Real?)

namespace Cert.KernelIdeal.Value

open Cert.KernelIdeal Cert.KernelIdeal.Gen

variable (m : (ℓ : Loc nD τ sig) → Buf (Elt Ideal) ℓ) (ρ : Dev nD → PrngReg) (c : Dev nD)

/-! ## The arguments -/

abbrev a0 : Vec Ideal S100000x128 .f32 := m ((c : Thread nD τ).loc main_arg0)
abbrev a1 : Vec Ideal S100000x3 .f32 := m ((c : Thread nD τ).loc main_arg1)
abbrev a2 : Vec Ideal S100000 .i32 := m ((c : Thread nD τ).loc main_arg2)
abbrev a3 : Vec Ideal S64x32x3 .f32 := m ((c : Thread nD τ).loc main_arg3)
abbrev a4 : Vec Ideal S64x32 .f32 := m ((c : Thread nD τ).loc main_arg4)
abbrev a5 : Vec Ideal S64x128 .f32 := m ((c : Thread nD τ).loc main_arg5)
abbrev a6 : Vec Ideal S64 .f32 := m ((c : Thread nD τ).loc main_arg6)
abbrev a7 : Vec Ideal S64x32 .f32 := m ((c : Thread nD τ).loc main_arg7)
abbrev a8 : Vec Ideal S64 .f32 := m ((c : Thread nD τ).loc main_arg8)
abbrev a9 : Vec Ideal S64x32 .f32 := m ((c : Thread nD τ).loc main_arg9)
abbrev a10 : Vec Ideal S64 .f32 := m ((c : Thread nD τ).loc main_arg10)
abbrev a11 : Vec Ideal S128x64 .f32 := m ((c : Thread nD τ).loc main_arg11)
abbrev a12 : Vec Ideal S128 .f32 := m ((c : Thread nD τ).loc main_arg12)
abbrev a13 : Vec Ideal S128 .f32 := m ((c : Thread nD τ).loc main_arg13)
abbrev a14 : Vec Ideal S128 .f32 := m ((c : Thread nD τ).loc main_arg14)
abbrev a15 : Vec Ideal S128x128 .f32 := m ((c : Thread nD τ).loc main_arg15)
abbrev a16 : Vec Ideal S128 .f32 := m ((c : Thread nD τ).loc main_arg16)
abbrev a17 : Vec Ideal S128 .f32 := m ((c : Thread nD τ).loc main_arg17)
abbrev a18 : Vec Ideal S128 .f32 := m ((c : Thread nD τ).loc main_arg18)

theorem arg3_W6 : u3 (W6 m ρ c) = a3 m c := W6_args m ρ c main_arg3 (by decide)
theorem arg4_W6 : u4 (W6 m ρ c) = a4 m c := W6_args m ρ c main_arg4 (by decide)
theorem arg5_W6 : u5 (W6 m ρ c) = a5 m c := W6_args m ρ c main_arg5 (by decide)
theorem arg6_W6 : u6 (W6 m ρ c) = a6 m c := W6_args m ρ c main_arg6 (by decide)
theorem arg7_W6 : u7 (W6 m ρ c) = a7 m c := W6_args m ρ c main_arg7 (by decide)
theorem arg8_W6 : u8 (W6 m ρ c) = a8 m c := W6_args m ρ c main_arg8 (by decide)
theorem arg9_W6 : u9 (W6 m ρ c) = a9 m c := W6_args m ρ c main_arg9 (by decide)
theorem arg10_W6 : u10 (W6 m ρ c) = a10 m c := W6_args m ρ c main_arg10 (by decide)
theorem arg0_W1 : u0 (W1 m ρ c) = a0 m c := W1_args m ρ c main_arg0 (by decide)
theorem arg1_W3 : u1 (W3 m ρ c) = a1 m c := W3_args m ρ c main_arg1 (by decide)
theorem arg2_W5 : u2 (W5 m ρ c) = a2 m c := W5_args m ρ c main_arg2 (by decide)
theorem arg11_W8 : u11 (W8 m ρ c) = a11 m c := W8_args m ρ c main_arg11 (by decide)
theorem arg12_W8 : u12 (W8 m ρ c) = a12 m c := W8_args m ρ c main_arg12 (by decide)
theorem arg13_W8 : u13 (W8 m ρ c) = a13 m c := W8_args m ρ c main_arg13 (by decide)
theorem arg14_W8 : u14 (W8 m ρ c) = a14 m c := W8_args m ρ c main_arg14 (by decide)
theorem arg15_W8 : u15 (W8 m ρ c) = a15 m c := W8_args m ρ c main_arg15 (by decide)
theorem arg16_W8 : u16 (W8 m ρ c) = a16 m c := W8_args m ρ c main_arg16 (by decide)
theorem arg17_W8 : u17 (W8 m ρ c) = a17 m c := W8_args m ρ c main_arg17 (by decide)
theorem arg18_W8 : u18 (W8 m ρ c) = a18 m c := W8_args m ρ c main_arg18 (by decide)

/-! ## The first region's arrays -/

theorem col_x (f : Fin 64) (k : Fin 32) : aCX (V7 m ρ) c (ix2 0 (col f k)) = a3 m c (ix3 f k 0) :=
  (v7_apply (W6 m ρ c) f k).trans (by rw [arg3_W6])

theorem col_y (f : Fin 64) (k : Fin 32) : aCY (V7 m ρ) c (ix2 0 (col f k)) = a3 m c (ix3 f k 1) :=
  (v10_apply (W6 m ρ c) f k).trans (by rw [arg3_W6])

theorem col_z (f : Fin 64) (k : Fin 32) : aCZ (V7 m ρ) c (ix2 0 (col f k)) = a3 m c (ix3 f k 2) :=
  (v13_apply (W6 m ρ c) f k).trans (by rw [arg3_W6])

theorem col_iv (f : Fin 64) (k : Fin 32) :
    aIV (V7 m ρ) c (ix2 0 (col f k)) = Ideal.div 1 (2 * (a4 m c (ix2 f k) * a4 m c (ix2 f k))) :=
  (v20_apply (W6 m ρ c) f k).trans (by rw [arg4_W6])

theorem col_wx (x : Fin 128) (f : Fin 64) (k : Fin 32) : aWX (V7 m ρ) c (ix2 x (col f k)) = a5 m c (ix2 f x) :=
  (v23_apply (W6 m ρ c) x f k).trans (by rw [arg5_W6])

theorem col_bx (f : Fin 64) (k : Fin 32) : aBX (V7 m ρ) c (ix2 0 (col f k)) = a6 m c (ix1 f) :=
  (v26_apply (W6 m ρ c) f k).trans (by rw [arg6_W6])

theorem row_m2 (f : Fin 64) (k : Fin 32) (g : Fin 64) : aM2 (V7 m ρ) c (ix2 (col f k) g) = a7 m c (ix2 f k) * Feat.eye f g :=
  (v38_apply (W6 m ρ c) f k g).trans (by rw [arg7_W6])

theorem row_mp (f : Fin 64) (k : Fin 32) (g : Fin 64) : aMP (V7 m ρ) c (ix2 (col f k) g) = a9 m c (ix2 f k) * Feat.eye f g :=
  (v44_apply (W6 m ρ c) f k g).trans (by rw [arg9_W6])

theorem sum_bb (g : Fin 64) : aBB (V7 m ρ) c (ix2 0 g) = a8 m c (ix1 g) + a10 m c (ix1 g) :=
  (v46_apply (W6 m ρ c) g).trans (by rw [arg8_W6, arg10_W6])

theorem in_x (n : Fin 100352) (h : n.val < 100000) (a : Fin 128) : aX (V7 m ρ) c (ix2 n a) = a0 m c (ix2 ⟨n.val, h⟩ a) := by
  have e : aX (V7 m ρ) c = W2 m ρ c (Proc.devRef .tc main_v0) :=
    (W7_of m ρ c main_v0 (by decide)).trans <| (W6_of m ρ c main_v0 (by decide)).trans <| (W5_of m ρ c main_v0 (by decide)).trans <|
      (W4_of m ρ c main_v0 (by decide)).trans (W3_of m ρ c main_v0 (by decide))
  exact (congrFun e _).trans ((v0_apply (W1 m ρ c) n a h).trans (by rw [arg0_W1]))

theorem in_p (n : Fin 100352) (h : n.val < 100000) (a : Fin 3) : aP (V7 m ρ) c (ix2 n a) = a1 m c (ix2 ⟨n.val, h⟩ a) := by
  have e : aP (V7 m ρ) c = W4 m ρ c (Proc.devRef .tc main_v1) :=
    (W7_of m ρ c main_v1 (by decide)).trans <| (W6_of m ρ c main_v1 (by decide)).trans (W5_of m ρ c main_v1 (by decide))
  exact (congrFun e _).trans ((v1_apply (W3 m ρ c) n a h).trans (by rw [arg1_W3]))

theorem in_g (n : Fin 100352) : graph (V7 m ρ) c n = if h : n.val < 100000 then a2 m c (ix1 ⟨n.val, h⟩) else 512#32 := by
  refine (v3_apply (W6 m ρ c) n).trans ((v2_apply (W5 m ρ c) n).trans ?_)
  rw [arg2_W5]
  have e : (W5 m ρ c (Proc.devRef .tc main_c_1) : Vec Ideal S_ .i32) ix0 = 512#32 := c1_apply (W4 m ρ c)
  rw [e]

/-- The padding rows belong to no graph. -/
theorem hot_pad (b : Fin 512) : hot 512#32 b = 0 := by
  unfold hot
  rw [if_neg]
  intro h
  have := congrArg BitVec.toNat h
  simp only [BitVec.toNat_ofNat] at this
  have hb := b.isLt
  omega

/-! ## The features -/

/-- A node's feature, before the slope, from the arguments. -/
def feature (n : Fin 100000) (g : Fin 64) : EReal :=
  Feat.feat (fun a => a0 m c (ix2 n a)) (fun a => a1 m c (ix2 n a)) (fun k a => a3 m c (ix3 g k a)) (fun k => a4 m c (ix2 g k))
    (fun a => a5 m c (ix2 g a)) (a6 m c (ix1 g)) (fun k => a7 m c (ix2 g k)) (a8 m c (ix1 g)) (fun k => a9 m c (ix2 g k)) (a10 m c (ix1 g))

/-- What the precondition says of the arguments. -/
structure Tame : Prop where
  x : ∀ n a, Real? (a0 m c (ix2 n a))
  w : ∀ f k, a4 m c (ix2 f k) ≠ 0
  wx : ∀ f a, Real? (a5 m c (ix2 f a))
  bx : ∀ f, Real? (a6 m c (ix1 f))
  wx2 : ∀ f k, Real? (a7 m c (ix2 f k))
  bx2 : ∀ f, Real? (a8 m c (ix1 f))
  wp : ∀ f k, Real? (a9 m c (ix2 f k))
  bp : ∀ f, Real? (a10 m c (ix1 f))

variable {m c}

theorem feature_real (T : Tame m c) (n : Fin 100000) (g : Fin 64) : Real? (feature m c n g) :=
  Feat.feat_real (T.x n) (T.w g) (T.wx g) (T.bx g) (T.wx2 g) (T.bx2 g) (T.wp g) (T.bp g)

theorem filt_eq (T : Tame m c) (n : Fin 100352) (h : n.val < 100000) (g : Fin 64) :
    filt (V7 m ρ) c n g = feature m c ⟨n.val, h⟩ g := by
  have k := Feat.feat_kernel (fun a => aX (V7 m ρ) c (ix2 n a)) (fun a => aP (V7 m ρ) c (ix2 n a))
    (fun f k a => a3 m c (ix3 f k a)) (fun f k => a4 m c (ix2 f k)) (fun f a => a5 m c (ix2 f a)) (fun f => a6 m c (ix1 f))
    (fun f k => a7 m c (ix2 f k)) (fun f => a8 m c (ix1 f)) (fun f k => a9 m c (ix2 f k)) (fun f => a10 m c (ix1 f))
    (fun a j => ![aCX (V7 m ρ) c (ix2 0 j), aCY (V7 m ρ) c (ix2 0 j), aCZ (V7 m ρ) c (ix2 0 j)] a)
    (fun j => aIV (V7 m ρ) c (ix2 0 j)) (fun a j => aWX (V7 m ρ) c (ix2 a j)) (fun j => aBX (V7 m ρ) c (ix2 0 j))
    (fun j g => aM2 (V7 m ρ) c (ix2 j g)) (fun j g => aMP (V7 m ρ) c (ix2 j g)) (fun g => aBB (V7 m ρ) c (ix2 0 g))
    (fun f k a => match a with
      | ⟨0, _⟩ => col_x m ρ c f k
      | ⟨1, _⟩ => col_y m ρ c f k
      | ⟨2, _⟩ => col_z m ρ c f k)
    (fun f k => col_iv m ρ c f k) (fun f k a => col_wx m ρ c a f k) (fun f k => col_bx m ρ c f k)
    (fun f k g => row_m2 m ρ c f k g) (fun f k g => row_mp m ρ c f k g) (fun g => sum_bb m ρ c g) T.w
    (fun j => radial (V7 m ρ) c n j) (fun j => rfl) g
  refine (show filt (V7 m ρ) c n g = _ from k).trans ?_
  unfold feature
  simp only [in_x m ρ c n h, in_p m ρ c n h]

/-- A sum over the points and their rows is a sum over the nodes with the padding. -/
theorem sum_node (f : Fin 100352 → EReal) : (∑ t : Fin 98, ∑ r : Fin 1024, f (node t r)) = ∑ n, f n := by
  rw [← Fintype.sum_prod_type']
  refine Fintype.sum_equiv (finProdFinEquiv (m := 98) (n := 1024)) _ _ fun p => congrArg f (Fin.ext ?_)
  show 1024 * p.1.val + p.2.val = p.2.val + 1024 * p.1.val
  omega

/-- The pooled array, from the arguments. -/
theorem pooled_eq (T : Tame m c) (b : Fin 512) (g : Fin 64) :
    hd0 (V9 m ρ) c (ix2 b g) = ∑ n : Fin 100000, hot (a2 m c (ix1 n)) b * Feat.leaky (feature m c n g) := by
  have e : hd0 (V9 m ρ) c = (dat0 (V7 m ρ) c).arrAt 12 cfg0.N :=
    (W9_of m ρ c main_v47 (by decide)).trans (W8_arr m ρ c 12)
  refine (congrFun e _).trans ?_
  rw [pooled_apply (V7 m ρ) c b g fun n => ?_]
  · rw [sum_node fun n => hot (graph (V7 m ρ) c n) b * Feat.leaky (filt (V7 m ρ) c n g),
      Fin.sum_univ_two_halves 100000 352 rfl]
    rw [Finset.sum_eq_zero (s := (Finset.univ : Finset (Fin 352)))]
    · rw [add_zero]
      refine Finset.sum_congr rfl fun n _ => ?_
      rw [in_g m ρ c, dif_pos n.isLt, filt_eq ρ T _ n.isLt]
    · intro n _
      rw [in_g m ρ c, dif_neg (show ¬ (100000 + n.val < 100000) by omega), hot_pad, zero_mul]
  · by_cases h : n.val < 100000
    · left; rw [filt_eq ρ T n h]; exact Feat.leaky_real (feature_real T _ g)
    · right; rw [in_g m ρ c, dif_neg h, hot_pad]

/-! ## The dense head's operands -/

variable (m c)

theorem op1 (k : Fin 64) (o : Fin 128) : hd1 (V9 m ρ) c (ix2 k o) = a11 m c (ix2 o k) :=
  (v48_apply (W8 m ρ c) k o).trans (by rw [arg11_W8])

theorem op5 (k o : Fin 128) : hd5 (V9 m ρ) c (ix2 k o) = a15 m c (ix2 o k) :=
  (v52_apply (W8 m ρ c) k o).trans (by rw [arg15_W8])

theorem op2 (o : Fin 128) : hd2 (V9 m ρ) c (ix2 0 o) = a12 m c (ix1 o) :=
  (v49_apply (W8 m ρ c) o).trans (by rw [arg12_W8])

theorem op3 (o : Fin 128) : hd3 (V9 m ρ) c (ix2 0 o) = a13 m c (ix1 o) :=
  (v50_apply (W8 m ρ c) o).trans (by rw [arg13_W8])

theorem op4 (o : Fin 128) : hd4 (V9 m ρ) c (ix2 0 o) = a14 m c (ix1 o) :=
  (v51_apply (W8 m ρ c) o).trans (by rw [arg14_W8])

theorem op6 (o : Fin 128) : hd6 (V9 m ρ) c (ix2 0 o) = a16 m c (ix1 o) :=
  (v53_apply (W8 m ρ c) o).trans (by rw [arg16_W8])

theorem op7 (o : Fin 128) : hd7 (V9 m ρ) c (ix2 0 o) = a17 m c (ix1 o) :=
  (v54_apply (W8 m ρ c) o).trans (by rw [arg17_W8])

theorem op8 (o : Fin 128) : hd8 (V9 m ρ) c (ix2 0 o) = a18 m c (ix1 o) :=
  (v55_apply (W8 m ρ c) o).trans (by rw [arg18_W8])

end Cert.KernelIdeal.Value

end
-- ==== Proof.Ref.lean ====
/-
  The reference read at an index: its features, the linear layers and the batch normalizations as the plain functions the
  kernel's reading also uses.
-/
module

public import proofs.«01_k».proof.Proof.Gen.ReferenceIdeal.Read
public import proofs.«01_k».proof.Proof.Mlp
public import Idealize.ShloMosaic.Lib.Pointwise

@[expose] public section

set_option maxRecDepth 16384
set_option maxHeartbeats 4000000

noncomputable section

namespace Cert.ReferenceIdeal.Read

open Idealize.ShloMosaic Idealize.ShloMosaic.Tactic
open Cert.ReferenceIdeal Cert.ReferenceIdeal.Gen

/-- The batch size the variance divides by. -/
theorem count_eq : Ideal.ofBits .f32 0x44000000#32 - FloatOps.sitofp (F := Ideal) .f32 0#32 = Ideal.ofBits .f32 0x44000000#32 := by
  have h : FloatOps.sitofp (F := Ideal) .f32 0#32 = (0 : EReal) := by
    show (((0#32 : BitVec 32).toInt : ℝ) : EReal) = 0
    simp
  rw [h]; exact sub_zero _

theorem count_pos : (0 : EReal) < Ideal.ofBits .f32 0x44000000#32 := by
  rw [Feat.ofBits_512]; exact_mod_cast (by norm_num : (0:ℝ) < 512)

theorem lin1 (x0 : Vec Ideal S100000x128 .f32) (x1 : Vec Ideal S100000x3 .f32) (x2 : Vec Ideal S100000 .i32) (x3 : Vec Ideal S64x32x3 .f32) (x4 : Vec Ideal S64x32 .f32) (x5 : Vec Ideal S64x128 .f32) (x6 : Vec Ideal S64 .f32) (x7 : Vec Ideal S64x32 .f32) (x8 : Vec Ideal S64 .f32) (x9 : Vec Ideal S64x32 .f32) (x10 : Vec Ideal S64 .f32) (x11 : Vec Ideal S128x64 .f32) (x12 : Vec Ideal S128 .f32) (n : Fin 512) (o : Fin 128) :
    val_main_v52 (F := Ideal) x0 x1 x2 x3 x4 x5 x6 x7 x8 x9 x10 x11 x12 (ix2 n o)
      = Feat.lin (fun k => val_main_v47 (F := Ideal) x0 x1 x2 x3 x4 x5 x6 x7 x8 x9 x10 (ix2 n k)) (fun k => x11 (ix2 o k)) (x12 (ix1 o)) := by
  unfold val_main_v52 val_main_v51 val_main_v50 val_main_v49 val_main_v48
  generalize val_main_v47 (F := Ideal) x0 x1 x2 x3 x4 x5 x6 x7 x8 x9 x10 = P
  pointwise []
  rfl

theorem norm1 (x0 : Vec Ideal S100000x128 .f32) (x1 : Vec Ideal S100000x3 .f32) (x2 : Vec Ideal S100000 .i32) (x3 : Vec Ideal S64x32x3 .f32) (x4 : Vec Ideal S64x32 .f32) (x5 : Vec Ideal S64x128 .f32) (x6 : Vec Ideal S64 .f32) (x7 : Vec Ideal S64x32 .f32) (x8 : Vec Ideal S64 .f32) (x9 : Vec Ideal S64x32 .f32) (x10 : Vec Ideal S64 .f32) (x11 : Vec Ideal S128x64 .f32) (x12 : Vec Ideal S128 .f32) (x13 : Vec Ideal S128 .f32) (x14 : Vec Ideal S128 .f32) (n : Fin 512) (o : Fin 128) :
    val_main_v76 (F := Ideal) x0 x1 x2 x3 x4 x5 x6 x7 x8 x9 x10 x11 x12 x13 x14 (ix2 n o)
      = Feat.leaky (Feat.bnorm (fun n => val_main_v52 (F := Ideal) x0 x1 x2 x3 x4 x5 x6 x7 x8 x9 x10 x11 x12 (ix2 n o)) (x13 (ix1 o)) (x14 (ix1 o)) n) := by
  unfold val_main_v76 val_main_v75 val_main_v74 val_main_cst_10 val_main_v73 val_main_v72 val_main_cst_9 val_main_v71
    val_main_v70 val_main_v69 val_main_v68 val_main_v67 val_main_v66 val_main_v65 val_main_v64 val_main_v63 val_main_v62
    val_main_v61 val_main_v60 val_main_cst_8 val_main_v59 val_main_v58 val_main_v57 val_main_v56 val_main_call1_call0_v1
    val_main_call1_call0_v0 val_main_call1_cst_4 val_main_call1_v12 val_main_call1_cst_3 val_main_call1_v11
    val_main_call1_v10 val_main_call1_v9 val_main_call1_cst_2 val_main_call1_v8 val_main_call1_cst_1 val_main_call1_v7
    val_main_call1_v6 val_main_call1_v5 val_main_call1_v4 val_main_call1_v3 val_main_call1_v2 val_main_call1_cst_0
    val_main_call1_v1 val_main_call1_v0 val_main_call1_cst val_main_c val_main_v55 val_main_v54 val_main_cst_7
    val_main_v53 val_main_cst_6
  generalize val_main_v52 (F := Ideal) x0 x1 x2 x3 x4 x5 x6 x7 x8 x9 x10 x11 x12 = h
  pointwise []
  rw [count_eq, if_pos count_pos]
  rfl

theorem lin2 (x0 : Vec Ideal S100000x128 .f32) (x1 : Vec Ideal S100000x3 .f32) (x2 : Vec Ideal S100000 .i32) (x3 : Vec Ideal S64x32x3 .f32) (x4 : Vec Ideal S64x32 .f32) (x5 : Vec Ideal S64x128 .f32) (x6 : Vec Ideal S64 .f32) (x7 : Vec Ideal S64x32 .f32) (x8 : Vec Ideal S64 .f32) (x9 : Vec Ideal S64x32 .f32) (x10 : Vec Ideal S64 .f32) (x11 : Vec Ideal S128x64 .f32) (x12 : Vec Ideal S128 .f32) (x13 : Vec Ideal S128 .f32) (x14 : Vec Ideal S128 .f32) (x15 : Vec Ideal S128x128 .f32) (x16 : Vec Ideal S128 .f32) (n : Fin 512) (o : Fin 128) :
    val_main_v81 (F := Ideal) x0 x1 x2 x3 x4 x5 x6 x7 x8 x9 x10 x11 x12 x13 x14 x15 x16 (ix2 n o)
      = Feat.lin (fun k => val_main_v76 (F := Ideal) x0 x1 x2 x3 x4 x5 x6 x7 x8 x9 x10 x11 x12 x13 x14 (ix2 n k)) (fun k => x15 (ix2 o k)) (x16 (ix1 o)) := by
  unfold val_main_v81 val_main_v80 val_main_v79 val_main_v78 val_main_v77
  generalize val_main_v76 (F := Ideal) x0 x1 x2 x3 x4 x5 x6 x7 x8 x9 x10 x11 x12 x13 x14 = P
  pointwise []
  rfl

theorem norm2 (x0 : Vec Ideal S100000x128 .f32) (x1 : Vec Ideal S100000x3 .f32) (x2 : Vec Ideal S100000 .i32) (x3 : Vec Ideal S64x32x3 .f32) (x4 : Vec Ideal S64x32 .f32) (x5 : Vec Ideal S64x128 .f32) (x6 : Vec Ideal S64 .f32) (x7 : Vec Ideal S64x32 .f32) (x8 : Vec Ideal S64 .f32) (x9 : Vec Ideal S64x32 .f32) (x10 : Vec Ideal S64 .f32) (x11 : Vec Ideal S128x64 .f32) (x12 : Vec Ideal S128 .f32) (x13 : Vec Ideal S128 .f32) (x14 : Vec Ideal S128 .f32) (x15 : Vec Ideal S128x128 .f32) (x16 : Vec Ideal S128 .f32) (x17 : Vec Ideal S128 .f32) (x18 : Vec Ideal S128 .f32) (n : Fin 512) (o : Fin 128) :
    val_main_v100 (F := Ideal) x0 x1 x2 x3 x4 x5 x6 x7 x8 x9 x10 x11 x12 x13 x14 x15 x16 x17 x18 (ix2 n o)
      = Feat.bnorm (fun n => val_main_v81 (F := Ideal) x0 x1 x2 x3 x4 x5 x6 x7 x8 x9 x10 x11 x12 x13 x14 x15 x16 (ix2 n o)) (x17 (ix1 o)) (x18 (ix1 o)) n := by
  unfold val_main_v100 val_main_v99 val_main_v98 val_main_v97 val_main_v96 val_main_v95 val_main_v94 val_main_v93 val_main_v92
    val_main_v91 val_main_v90 val_main_v89 val_main_cst_14 val_main_v88 val_main_v87 val_main_v86 val_main_v85
    val_main_call3_call0_v1 val_main_call3_call0_v0 val_main_call3_cst_4 val_main_call3_v12 val_main_call3_cst_3
    val_main_call3_v11 val_main_call3_v10 val_main_call3_v9 val_main_call3_cst_2 val_main_call3_v8 val_main_call3_cst_1
    val_main_call3_v7 val_main_call3_v6 val_main_call3_v5 val_main_call3_v4 val_main_call3_v3 val_main_call3_v2
    val_main_call3_cst_0 val_main_call3_v1 val_main_call3_v0 val_main_call3_cst val_main_c_13 val_main_v84 val_main_v83
    val_main_cst_12 val_main_v82 val_main_cst_11
  generalize val_main_v81 (F := Ideal) x0 x1 x2 x3 x4 x5 x6 x7 x8 x9 x10 x11 x12 x13 x14 x15 x16 = h
  pointwise []
  rw [count_eq, if_pos count_pos]
  rfl

/-- The reference's features of a node, activated. -/
theorem feats (x0 : Vec Ideal S100000x128 .f32) (x1 : Vec Ideal S100000x3 .f32) (x3 : Vec Ideal S64x32x3 .f32) (x4 : Vec Ideal S64x32 .f32) (x5 : Vec Ideal S64x128 .f32) (x6 : Vec Ideal S64 .f32) (x7 : Vec Ideal S64x32 .f32) (x8 : Vec Ideal S64 .f32) (x9 : Vec Ideal S64x32 .f32) (x10 : Vec Ideal S64 .f32) (n : Fin 100000) (g : Fin 64) :
    val_main_v44 (F := Ideal) x0 x1 x3 x4 x5 x6 x7 x8 x9 x10 (ix2 n g)
      = Feat.leaky (Feat.feat (fun a => x0 (ix2 n a)) (fun a => x1 (ix2 n a)) (fun k a => x3 (ix3 g k a)) (fun k => x4 (ix2 g k))
          (fun a => x5 (ix2 g a)) (x6 (ix1 g)) (fun k => x7 (ix2 g k)) (x8 (ix1 g)) (fun k => x9 (ix2 g k)) (x10 (ix1 g))) := by
  unfold val_main_v44 val_main_v43 val_main_v42 val_main_cst_4 val_main_v41 val_main_v40 val_main_cst_3 val_main_v39
    val_main_v38 val_main_v37 val_main_v36 val_main_v35 val_main_cst_2 val_main_v34 val_main_v33 val_main_v32
    val_main_v31 val_main_v30 val_main_v29 val_main_v28 val_main_cst_1 val_main_v27 val_main_v26 val_main_v25
    val_main_v24 val_main_v23 val_main_v22 val_main_v21 val_main_v20 val_main_v19 val_main_v18 val_main_v17 val_main_v16
    val_main_v15 val_main_cst_0 val_main_v14 val_main_v13 val_main_v12 val_main_v11 val_main_cst val_main_v10 val_main_v9
    val_main_v8 val_main_v7 val_main_v6 val_main_v5 val_main_v4 val_main_v3 val_main_v2 val_main_v1 val_main_v0
  pointwise []
  simp only [Feat.leaky, Feat.feat, Feat.rbf, Feat.sq3, Feat.ofBits_two, Fin.sum_univ_three]

end Cert.ReferenceIdeal.Read

end
-- ==== Proof.Pool.lean ====
/-
  The reference's pooling read at an index: the scatter-add over the nodes as a sum weighted by each node's graph indicator,
  and the whole reference result as plain functions of the arguments.
-/
module

public import proofs.«01_k».proof.Proof.Ref
public import proofs.«01_k».proof.Proof.Pay
public import Idealize.ShloMosaic.Lib.Routing.OpsPair

@[expose] public section

set_option maxRecDepth 16384

noncomputable section

namespace Cert.ReferenceIdeal.Read

open Idealize.ShloMosaic Idealize.ShloMosaic.Tactic
open Cert.ReferenceIdeal Cert.ReferenceIdeal.Gen
open Cert.KernelIdeal.Value (hot)

/-- The printed scatter's dimension numbers. -/
abbrev sd : ScatterDims S512x64 S100000x1 S100000x64 := scatter_S512x64_S100000x1_S100000x64_1_0_0_1

theorem sd_idx (n : Fin 100000) (g : Fin 64) (c : Fin sd.scatterDimsToOperandDims.length) : sd.siIdx (ix2 n g) c = ix2 n 0 := by
  funext b
  match b with
  | ⟨0, _⟩ => rfl
  | ⟨1, _⟩ => exact Fin.ext (by have h := c.isLt; show c.val = 0; have h' : c.val < 1 := h; omega)

theorem sd_lands (idx : IVec S100000x1 32) (n : Fin 100000) (h g : Fin 64) (b : Fin 512) :
    sd.resultIdx? (ix2 n h) idx = some (ix2 b g) ↔ (idx (ix2 n 0)).toInt = (b.val : Int) ∧ h = g := by
  rw [Routing.resultIdx?_eq_some]
  have h0 : sd.start (ix2 n h) idx 0 = (idx (ix2 n 0)).toInt := by
    unfold ScatterDims.start
    rw [dif_pos (show (0 : Fin 2) ∈ sd.scatterDimsToOperandDims from List.mem_singleton.2 rfl), sd_idx]
  have h1 : sd.start (ix2 n h) idx 1 = 0 := by
    unfold ScatterDims.start
    rw [dif_neg (show ¬ (1 : Fin 2) ∈ sd.scatterDimsToOperandDims from fun e => absurd (List.mem_singleton.1 e) (by decide))]
  have w0 : sd.window (ix2 n h) 0 = 0 := rfl
  have w1 : sd.window (ix2 n h) 1 = h.val := rfl
  constructor
  · intro q
    have q0 := q 0
    have q1 := q 1
    rw [h0, w0] at q0
    rw [h1, w1] at q1
    change _ = ((b.val : ℕ) : Int) at q0
    change _ = ((g.val : ℕ) : Int) at q1
    exact ⟨by omega, Fin.ext (by omega)⟩
  · rintro ⟨e, rfl⟩ a
    match a with
    | ⟨0, _⟩ => show sd.start (ix2 n h) idx 0 + (sd.window (ix2 n h) 0 : Int) = (b.val : Int); rw [h0, w0]; omega
    | ⟨1, _⟩ => show sd.start (ix2 n h) idx 1 + (sd.window (ix2 n h) 1 : Int) = (h.val : Int); rw [h1, w1]; omega

/-- A word is a graph's number, read signed, exactly when it is that number's word. -/
theorem toInt_eq_iff (w : BitVec 32) (b : Fin 512) : w.toInt = (b.val : Int) ↔ w = BitVec.ofNat 32 b.val := by
  have hb := b.isLt
  have e : (BitVec.ofNat 32 b.val).toInt = (b.val : Int) := by
    rw [BitVec.toInt_eq_toNat_cond, BitVec.toNat_ofNat]
    have : b.val % 2 ^ 32 = b.val := Nat.mod_eq_of_lt (by omega)
    rw [this, if_pos (by omega)]
  constructor
  · intro h; exact BitVec.eq_of_toInt_eq (h.trans e.symm)
  · rintro rfl; exact e

/-- A scatter-add into zeros, at an index. -/
theorem scatter_apply (x : Vec Ideal S512x64 .f32) (idx : IVec S100000x1 32) (upd : Vec Ideal S100000x64 .f32) (b : Fin 512) (g : Fin 64) :
    Host.scatterAdd (F := Ideal) (φ := .f32) sd x idx upd (ix2 b g) = x (ix2 b g) + ∑ n : Fin 100000, hot (idx (ix2 n 0)) b * upd (ix2 n g) := by
  show Ideal.hostScatterAdd sd x idx upd (ix2 b g) = _
  unfold Ideal.hostScatterAdd
  refine congrArg (fun s : EReal => x (ix2 b g) + s) ?_
  rw [Finset.sum_filter, sum_idx2]
  refine Finset.sum_congr rfl fun n _ => ?_
  rw [Finset.sum_eq_single g]
  · unfold hot
    by_cases e : idx (ix2 n 0) = BitVec.ofNat 32 b.val
    · rw [if_pos e, one_mul, if_pos ((sd_lands idx n g g b).2 ⟨(toInt_eq_iff _ b).2 e, rfl⟩)]
    · rw [if_neg e, zero_mul, if_neg fun q => e ((toInt_eq_iff _ b).1 ((sd_lands idx n g g b).1 q).1)]
  · intro h _ hne
    rw [if_neg fun q => hne ((sd_lands idx n h g b).1 q).2]
  · intro h; exact absurd (Finset.mem_univ g) h

theorem pooled (x0 : Vec Ideal S100000x128 .f32) (x1 : Vec Ideal S100000x3 .f32) (x2 : Vec Ideal S100000 .i32) (x3 : Vec Ideal S64x32x3 .f32)
    (x4 : Vec Ideal S64x32 .f32) (x5 : Vec Ideal S64x128 .f32) (x6 : Vec Ideal S64 .f32) (x7 : Vec Ideal S64x32 .f32) (x8 : Vec Ideal S64 .f32)
    (x9 : Vec Ideal S64x32 .f32) (x10 : Vec Ideal S64 .f32) (b : Fin 512) (g : Fin 64) :
    val_main_v47 (F := Ideal) x0 x1 x2 x3 x4 x5 x6 x7 x8 x9 x10 (ix2 b g)
      = ∑ n : Fin 100000, hot (x2 (ix1 n)) b
          * Feat.leaky (Feat.feat (fun a => x0 (ix2 n a)) (fun a => x1 (ix2 n a)) (fun k a => x3 (ix3 g k a)) (fun k => x4 (ix2 g k))
          (fun a => x5 (ix2 g a)) (x6 (ix1 g)) (fun k => x7 (ix2 g k)) (x8 (ix1 g)) (fun k => x9 (ix2 g k)) (x10 (ix1 g))) := by
  unfold val_main_v47
  refine (scatter_apply _ _ _ b g).trans ?_
  have hz : val_main_v45 (F := Ideal) (ix2 b g) = (0 : EReal) := by
    unfold val_main_v45 val_main_cst_5
    pointwise []
  rw [hz, zero_add]
  refine Finset.sum_congr rfl fun n _ => ?_
  have hg : val_main_v46 (F := Ideal) x2 (ix2 n 0) = x2 (ix1 n) := by
    unfold val_main_v46
    pointwise []
  rw [feats, hg]

end Cert.ReferenceIdeal.Read

end
-- ==== Proof.Same.lean ====
/-
  The two results are equal at every index: the reference's value and the kernel's, from the same arguments.
-/
module

public import proofs.«01_k».proof.Proof.KVal
public import proofs.«01_k».proof.Proof.Pool

@[expose] public section

set_option maxRecDepth 16384

noncomputable section

open Idealize.ShloMosaic Idealize.ShloMosaic.TcCoe Idealize.ShloMosaic.Tactic Idealize.SL.Sem

namespace Cert.KernelIdeal.Value

open Cert.KernelIdeal Cert.KernelIdeal.Gen
open Cert.ReferenceIdeal.Read (val_main_v47 val_main_v100 pooled lin1 lin2 norm1 norm2)

variable {m : (ℓ : Loc nD τ sig) → Buf (Elt Ideal) ℓ} (ρ : Dev nD → PrngReg) {c : Dev nD}

theorem pooled_same (T : Tame m c) (b : Fin 512) (g : Fin 64) :
    val_main_v47 (F := Ideal) (a0 m c) (a1 m c) (a2 m c) (a3 m c) (a4 m c) (a5 m c) (a6 m c) (a7 m c) (a8 m c) (a9 m c) (a10 m c) (ix2 b g)
      = hd0 (V9 m ρ) c (ix2 b g) := by
  rw [pooled_eq ρ T b g]
  exact pooled _ _ _ _ _ _ _ _ _ _ _ b g

/-- The kernel's result array is the reference's value of its arguments. -/
theorem result_same (T : Tame m c) :
    result m ρ c = val_main_v100 (F := Ideal) (a0 m c) (a1 m c) (a2 m c) (a3 m c) (a4 m c) (a5 m c) (a6 m c) (a7 m c) (a8 m c) (a9 m c)
      (a10 m c) (a11 m c) (a12 m c) (a13 m c) (a14 m c) (a15 m c) (a16 m c) (a17 m c) (a18 m c) := by
  funext i
  obtain ⟨n, o, rfl⟩ : ∃ (n : Fin 512) (o : Fin 128), i = ix2 n o := ⟨i 0, i 1, eq_ix2 i⟩
  refine (head_apply (V9 m ρ) c n o).trans ?_
  refine Eq.trans ?_ (norm2 _ _ _ _ _ _ _ _ _ _ _ _ _ _ _ _ _ _ _ n o).symm
  simp only [lin2, norm1, lin1, pooled_same ρ T]
  have h1 : ∀ k o, hd1 (V9 m ρ) c (ix2 k o) = a11 m c (ix2 o k) := op1 m ρ c
  have h2 := op2 m ρ c
  have h3 := op3 m ρ c
  have h4 := op4 m ρ c
  have h5 := op5 m ρ c
  have h6 := op6 m ρ c
  have h7 := op7 m ρ c
  have h8 := op8 m ρ c
  unfold logits hidden
  generalize hd1 (V9 m ρ) c = y1 at h1 ⊢
  generalize hd2 (V9 m ρ) c = y2 at h2 ⊢
  generalize hd3 (V9 m ρ) c = y3 at h3 ⊢
  generalize hd4 (V9 m ρ) c = y4 at h4 ⊢
  generalize hd5 (V9 m ρ) c = y5 at h5 ⊢
  generalize hd6 (V9 m ρ) c = y6 at h6 ⊢
  generalize hd7 (V9 m ρ) c = y7 at h7 ⊢
  generalize hd8 (V9 m ρ) c = y8 at h8 ⊢
  simp only [h1, h2, h3, h4, h5, h6, h7, h8]

end Cert.KernelIdeal.Value

end
-- ==== Proof.Tame.lean ====
/-
  The precondition read: the features and the filters' parameters are finite, no width is zero.
-/
module

public import proofs.«01_k».proof.Defs
public import proofs.«01_k».proof.Proof.KVal

@[expose] public section

set_option maxRecDepth 16384

noncomputable section

namespace Cert.Proof.Pre

open Idealize.ShloMosaic Idealize.ShloMosaic.TcCoe Idealize.ShloMosaic.Tactic
open Cert.Pre_tame
open Cert.Feat (Real?)

/-- The shape relations the precondition states. -/
theorem facts : Cert.Pre_tame.Facts := ⟨by decide, by decide, by decide, by decide⟩

/-- A comparison's bit that is one was a true comparison. -/
theorem true_of_bit {p : Prop} [Decidable p] (h : BitVec.ofBool (decide p) = 1#1) : p := by
  by_cases hp : p
  · exact hp
  · simp [hp] at h

/-- An absolute value below the infinite literal is a real number's. -/
theorem real_of_bit (x : EReal)
    (h : BitVec.ofBool (decide (FloatOps.absf (F := Ideal) (φ := .f32) x < Ideal.ofBits FTy.f32 0x7F800000#32)) = 1#1) :
    Real? x := by
  have k := true_of_bit h
  rw [Cert.Feat.ofBits_inf] at k
  exact Cert.Feat.real_of_abs_lt k

/-- Every entry of the node features is real. -/
theorem fin_x (hb) (x : FVec Ideal S100000x128 .f32)
    (h : cmpf .olt (Host.absf x) (broadcastInDim S100000x128 ![] hb (constant (F := Ideal) S_ .f32 0x7F800000#32)) = fun _ => 1#1)
    (n : Fin 100000) (a : Fin 128) : Real? (x (ix2 n a)) := by
  have k := congrFun h (ix2 n a)
  pointwise [] at k
  exact real_of_bit _ k

/-- Every entry of the first filter matrix is real. -/
theorem fin_wx (hb) (x : FVec Ideal S64x128 .f32)
    (h : cmpf .olt (Host.absf x) (broadcastInDim S64x128 ![] hb (constant (F := Ideal) S_ .f32 0x7F800000#32)) = fun _ => 1#1)
    (n : Fin 64) (a : Fin 128) : Real? (x (ix2 n a)) := by
  have k := congrFun h (ix2 n a)
  pointwise [] at k
  exact real_of_bit _ k

/-- Every entry of a bias of the filters is real. -/
theorem fin_b (hb) (x : FVec Ideal S64 .f32)
    (h : cmpf .olt (Host.absf x) (broadcastInDim S64 ![] hb (constant (F := Ideal) S_ .f32 0x7F800000#32)) = fun _ => 1#1)
    (n : Fin 64) : Real? (x (ix1 n)) := by
  have k := congrFun h (ix1 n)
  pointwise [] at k
  exact real_of_bit _ k

/-- Every entry of a 64×32 matrix of the filters is real. -/
theorem fin_w2 (hb) (x : FVec Ideal S64x32 .f32)
    (h : cmpf .olt (Host.absf x) (broadcastInDim S64x32 ![] hb (constant (F := Ideal) S_ .f32 0x7F800000#32)) = fun _ => 1#1)
    (n : Fin 64) (a : Fin 32) : Real? (x (ix2 n a)) := by
  have k := congrFun h (ix2 n a)
  pointwise [] at k
  exact real_of_bit _ k

/-- No width is zero. -/
theorem ne_w (hb) (x : FVec Ideal S64x32 .f32)
    (h : cmpf .une x (broadcastInDim S64x32 ![] hb (constant (F := Ideal) S_ .f32 0x00000000#32)) = fun _ => 1#1)
    (n : Fin 64) (a : Fin 32) : x (ix2 n a) ≠ 0 := by
  have k := congrFun h (ix2 n a)
  pointwise [] at k
  exact true_of_bit k

/-- What the precondition grants on each device, in the form the value modules use. -/
theorem tame_of [hP : Cert.Pre_tame.Facts]
    (m : (ℓ : Loc Cert.KernelIdeal.nD Cert.KernelIdeal.τ Cert.KernelIdeal.sig) → Buf (Elt Ideal) ℓ)
    (h : Cert.Pre_KernelIdeal_tame m) (c : Dev Cert.KernelIdeal.nD) : Cert.KernelIdeal.Value.Tame m c := by
  obtain ⟨h0, h1, h2, h3, h4, h5, h6, h7⟩ := h c
  exact
    { x := fin_x _ _ h0
      w := ne_w _ _ h7
      wx := fin_wx _ _ h1
      bx := fin_b _ _ h2
      wx2 := fin_w2 _ _ h3
      bx2 := fin_b _ _ h4
      wp := fin_w2 _ _ h5
      bp := fin_b _ _ h6 }

end Cert.Proof.Pre

end
-- ==== Proof.lean ====
/-
  The kernel and the reference compute the same extended reals (`Proof.Same`), under the precondition read in
  `Proof.Tame`; every program of the statement leaves its arguments and its counters as they were.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init
public import proofs.«01_k».proof.Proof.KRun
public import proofs.«01_k».proof.Proof.Same
public import proofs.«01_k».proof.Proof.Tame

@[expose] public section

set_option maxRecDepth 16384

noncomputable section

namespace Cert.Proof

open Idealize.ShloMosaic Idealize.SL.Sem

/-- The reference leaves its arguments as they were, and it has no semaphore. -/
theorem frame_ri : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same, from the memories the precondition grants. -/
theorem frame_ri_tame :
    Cert.quiescent_ReferenceIdeal_pre_tame (hReferenceIdeal := Cert.ReferenceIdeal.Gen.facts) (hPre_tame := Pre.facts) :=
  fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From memories that agree on the arguments, the two runs end with the same result. -/
theorem same : Cert.algebraic_KernelIdeal_ReferenceIdeal_pre_tame (hKernelIdeal := Cert.KernelIdeal.Gen.facts)
    (hReferenceIdeal := Cert.ReferenceIdeal.Gen.facts) (hPre_tame := Pre.facts) := by
  intro m ρ m' ρ' hpre hag
  refine ⟨fun c => Cert.KernelIdeal.Value.result m ρ c, Cert.KernelIdeal.Value.run m ρ, ?_⟩
  refine (θ_run Cert.ReferenceIdeal.defs _ _).mono (fun r h c => ⟨?_, (h c).2⟩)
    (Cert.ReferenceIdeal.Value.run (F := Ideal) m' ρ')
  have T := Pre.tame_of (hP := Pre.facts) m hpre c
  obtain ⟨e0, e1, e2, e3, e4, e5, e6, e7, e8, e9, e10, e11, e12, e13, e14, e15, e16, e17, e18⟩ := hag c
  refine ((h c).1.trans (Cert.ReferenceIdeal.Read.val_main_v100_eq _)).trans ?_
  refine Eq.trans ?_ (Cert.KernelIdeal.Value.result_same ρ T).symm
  show Cert.ReferenceIdeal.Read.val_main_v100 (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg10))
    (m' ((c.tc : Thread Cert.ReferenceIdeal.nD Cert.ReferenceIdeal.τ).loc Cert.ReferenceIdeal.main_arg11))
    (m' ((c.tc : Thread Cert.ReferenceIdeal.nD Cert.ReferenceIdeal.τ).loc Cert.ReferenceIdeal.main_arg12))
    (m' ((c.tc : Thread Cert.ReferenceIdeal.nD Cert.ReferenceIdeal.τ).loc Cert.ReferenceIdeal.main_arg13))
    (m' ((c.tc : Thread Cert.ReferenceIdeal.nD Cert.ReferenceIdeal.τ).loc Cert.ReferenceIdeal.main_arg14))
    (m' ((c.tc : Thread Cert.ReferenceIdeal.nD Cert.ReferenceIdeal.τ).loc Cert.ReferenceIdeal.main_arg15))
    (m' ((c.tc : Thread Cert.ReferenceIdeal.nD Cert.ReferenceIdeal.τ).loc Cert.ReferenceIdeal.main_arg16))
    (m' ((c.tc : Thread Cert.ReferenceIdeal.nD Cert.ReferenceIdeal.τ).loc Cert.ReferenceIdeal.main_arg17))
    (m' ((c.tc : Thread Cert.ReferenceIdeal.nD Cert.ReferenceIdeal.τ).loc Cert.ReferenceIdeal.main_arg18))
    = _
  rw [e0, e1, e2, e3, e4, e5, e6, e7, e8, e9, e10, e11, e12, e13, e14, e15, e16, e17, e18]

theorem claim : Cert.Claim :=
  ⟨Cert.Kernel.Gen.facts, Cert.KernelIdeal.Gen.facts, Cert.ReferenceIdeal.Gen.facts, Pre.facts,
    fun m ρ _ => Cert.Kernel.Gen.frame m ρ, fun m ρ _ => Cert.KernelIdeal.Gen.frame m ρ,
    fun m ρ _ => Cert.KernelIdeal.Gen.frame m ρ, frame_ri, frame_ri_tame, trivial, same⟩

end Cert.Proof

end
